-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S59x2x512 Cert.KernelIdeal.S59x1x512
  ∧ IdealRules.bf16_pair.PackStatement Cert.KernelIdeal.S59x512
  ∧ IdealRules.bf16_pair.Statement Cert.KernelIdeal.S59x2x512 Cert.KernelIdeal.S59x1x512
  ∧ IdealRules.bf16_pair.PackStatement Cert.KernelIdeal.S59x128
  ∧ IdealRules.bf16_pair.Statement Cert.KernelIdeal.S59x2x128 Cert.KernelIdeal.S59x1x128
  ∧ IdealRules.bf16_pair.Statement Cert.KernelIdeal.S1x2x512 Cert.KernelIdeal.S1x1x512
  ∧ IdealRules.bf16_pair.Statement Cert.KernelIdeal.S2x512 Cert.KernelIdeal.S1x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x384x7552 : Shape := ⟨3, ![1, 384, 7552]⟩
abbrev S3776x28160 : Shape := ⟨2, ![3776, 28160]⟩
abbrev S59x28160 : Shape := ⟨2, ![59, 28160]⟩
abbrev S59x14080 : Shape := ⟨2, ![59, 14080]⟩
abbrev S384x7552 : Shape := ⟨2, ![384, 7552]⟩
abbrev S384x28160 : Shape := ⟨2, ![384, 28160]⟩
abbrev S3776x512 : Shape := ⟨2, ![3776, 512]⟩
abbrev S59x512 : Shape := ⟨2, ![59, 512]⟩
abbrev S59x256 : Shape := ⟨2, ![59, 256]⟩
abbrev S384x512 : Shape := ⟨2, ![384, 512]⟩
abbrev S7552x512 : Shape := ⟨2, ![7552, 512]⟩
abbrev S59x128 : Shape := ⟨2, ![59, 128]⟩
abbrev S59x128x1 : Shape := ⟨3, ![59, 128, 1]⟩
abbrev S128x512 : Shape := ⟨2, ![128, 512]⟩
abbrev S32x512 : Shape := ⟨2, ![32, 512]⟩
abbrev S1x512 : Shape := ⟨2, ![1, 512]⟩
abbrev S2x512 : Shape := ⟨2, ![2, 512]⟩
abbrev S64x512 : Shape := ⟨2, ![64, 512]⟩
abbrev S16x512 : Shape := ⟨2, ![16, 512]⟩

abbrev nBuf : Space → Nat
  | .hbm => 6
  | .vmem => 12
  | .smem => 0
  | _ => 0

abbrev bufTy : (tb : Table) → Fin (tcTables nBuf tb) → BufTy
  | .hbm, ⟨0, _⟩ => ⟨S1x384x7552, .bf16⟩
  | .hbm, ⟨1, _⟩ => ⟨S3776x28160, .i8⟩
  | .hbm, ⟨2, _⟩ => ⟨S59x28160, .bf16⟩
  | .hbm, ⟨3, _⟩ => ⟨S59x14080, .i8⟩
  | .hbm, ⟨4, _⟩ => ⟨S384x7552, .bf16⟩
  | .hbm, ⟨5, _⟩ => ⟨S384x28160, .bf16⟩
  | .local _ .vmem, ⟨0, _⟩ => ⟨S384x7552, .bf16⟩
  | .local _ .vmem, ⟨1, _⟩ => ⟨S3776x512, .i8⟩
  | .local _ .vmem, ⟨2, _⟩ => ⟨S3776x512, .i8⟩
  | .local _ .vmem, ⟨3, _⟩ => ⟨S59x512, .bf16⟩
  | .local _ .vmem, ⟨4, _⟩ => ⟨S59x512, .bf16⟩
  | .local _ .vmem, ⟨5, _⟩ => ⟨S59x256, .i8⟩
  | .local _ .vmem, ⟨6, _⟩ => ⟨S59x256, .i8⟩
  | .local _ .vmem, ⟨7, _⟩ => ⟨S384x512, .bf16⟩
  | .local _ .vmem, ⟨8, _⟩ => ⟨S384x512, .bf16⟩
  | .local _ .vmem, ⟨9, _⟩ => ⟨S7552x512, .bf16⟩
  | .local _ .vmem, ⟨10, _⟩ => ⟨S59x512, .i32⟩
  | .local _ .vmem, ⟨11, _⟩ => ⟨S59x512, .i32⟩
  | _, _ => ⟨S1x384x7552, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![55], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S384x7552 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3776x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S59x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S59x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S59x2x512 : Shape := ⟨3, ![59, 2, 512]⟩
abbrev S59x1x512 : Shape := ⟨3, ![59, 1, 512]⟩
abbrev S59x2x128 : Shape := ⟨3, ![59, 2, 128]⟩
abbrev S59x1x128 : Shape := ⟨3, ![59, 1, 128]⟩
abbrev S1x2x512 : Shape := ⟨3, ![1, 2, 512]⟩
abbrev S1x1x512 : Shape := ⟨3, ![1, 1, 512]⟩
  | .local _ .vmem, ⟨10, _⟩ => ⟨S59x2x512, .bf16⟩
  | .local _ .vmem, ⟨11, _⟩ => ⟨S59x2x512, .bf16⟩
variable {F : FTy → Type} [FloatOps F]
-- ==== ReferenceIdeal.lean ====
abbrev S1x384x7552 : Shape := ⟨3, ![1, 384, 7552]⟩
abbrev S3776x28160 : Shape := ⟨2, ![3776, 28160]⟩
abbrev S59x28160 : Shape := ⟨2, ![59, 28160]⟩
abbrev S59x14080 : Shape := ⟨2, ![59, 14080]⟩
abbrev S_ : Shape := ⟨0, ![]⟩
abbrev S59x14080x1 : Shape := ⟨3, ![59, 14080, 1]⟩
abbrev S59x14080x2 : Shape := ⟨3, ![59, 14080, 2]⟩
abbrev S1x384x3712 : Shape := ⟨3, ![1, 384, 3712]⟩
abbrev S3712x28160 : Shape := ⟨2, ![3712, 28160]⟩
abbrev S29x28160 : Shape := ⟨2, ![29, 28160]⟩
abbrev S29x128x28160 : Shape := ⟨3, ![29, 128, 28160]⟩
abbrev S29x1x28160 : Shape := ⟨3, ![29, 1, 28160]⟩
abbrev S1x384x29x128 : Shape := ⟨4, ![1, 384, 29, 128]⟩
abbrev S1x384x28160 : Shape := ⟨3, ![1, 384, 28160]⟩
abbrev S1x384x64 : Shape := ⟨3, ![1, 384, 64]⟩
abbrev S64x28160 : Shape := ⟨2, ![64, 28160]⟩
abbrev S1x28160 : Shape := ⟨2, ![1, 28160]⟩
abbrev S1x64x28160 : Shape := ⟨3, ![1, 64, 28160]⟩
abbrev S1x1x28160 : Shape := ⟨3, ![1, 1, 28160]⟩
abbrev S1x384x1x64 : Shape := ⟨4, ![1, 384, 1, 64]⟩
abbrev S384x28160 : Shape := ⟨2, ![384, 28160]⟩

abbrev nBuf : Space → Nat
  | .hbm => 84
  | .vmem => 0
  | .smem => 0
  | _ => 0

abbrev bufTy : (tb : Table) → Fin (tcTables nBuf tb) → BufTy
  | .hbm, ⟨0, _⟩ => ⟨S1x384x7552, .bf16⟩
  | .hbm, ⟨1, _⟩ => ⟨S3776x28160, .i8⟩
  | .hbm, ⟨2, _⟩ => ⟨S59x28160, .bf16⟩
  | .hbm, ⟨3, _⟩ => ⟨S59x14080, .i8⟩
  | .hbm, ⟨4, _⟩ => ⟨S3776x28160, .i32⟩
  | .hbm, ⟨5, _⟩ => ⟨S59x14080, .i32⟩
  | .hbm, ⟨6, _⟩ => ⟨S_, .i32⟩
  | .hbm, ⟨7, _⟩ => ⟨S59x14080, .i32⟩
  | .hbm, ⟨8, _⟩ => ⟨S59x14080, .i32⟩
  | .hbm, ⟨9, _⟩ => ⟨S_, .i32⟩
  | .hbm, ⟨10, _⟩ => ⟨S59x14080, .i32⟩
  | .hbm, ⟨11, _⟩ => ⟨S59x14080, .i32⟩
  | .hbm, ⟨12, _⟩ => ⟨S59x14080x1, .i32⟩
  | .hbm, ⟨13, _⟩ => ⟨S59x14080x1, .i32⟩
  | .hbm, ⟨14, _⟩ => ⟨S59x14080x2, .i32⟩
  | .hbm, ⟨15, _⟩ => ⟨S59x28160, .i32⟩
  | .hbm, ⟨16, _⟩ => ⟨S59x28160, .bf16⟩
  | .hbm, ⟨17, _⟩ => ⟨S_, .i32⟩
  | .hbm, ⟨18, _⟩ => ⟨S3776x28160, .i32⟩
  | .hbm, ⟨19, _⟩ => ⟨S3776x28160, .i32⟩
  | .hbm, ⟨20, _⟩ => ⟨S_, .i32⟩
  | .hbm, ⟨21, _⟩ => ⟨S3776x28160, .i32⟩
  | .hbm, ⟨22, _⟩ => ⟨S3776x28160, .i32⟩
  | .hbm, ⟨23, _⟩ => ⟨S1x384x3712, .bf16⟩
  | .hbm, ⟨24, _⟩ => ⟨S3712x28160, .i32⟩
  | .hbm, ⟨25, _⟩ => ⟨S29x28160, .bf16⟩
  | .hbm, ⟨26, _⟩ => ⟨S29x28160, .bf16⟩
  | .hbm, ⟨27, _⟩ => ⟨S29x128x28160, .i32⟩
  | .hbm, ⟨28, _⟩ => ⟨S29x128x28160, .bf16⟩
  | .hbm, ⟨29, _⟩ => ⟨S29x1x28160, .bf16⟩
  | .hbm, ⟨30, _⟩ => ⟨S29x128x28160, .bf16⟩
  | .hbm, ⟨31, _⟩ => ⟨S29x128x28160, .bf16⟩
  | .hbm, ⟨32, _⟩ => ⟨S29x1x28160, .bf16⟩
  | .hbm, ⟨33, _⟩ => ⟨S29x128x28160, .bf16⟩
  | .hbm, ⟨34, _⟩ => ⟨S29x128x28160, .bf16⟩
  | .hbm, ⟨35, _⟩ => ⟨S1x384x29x128, .bf16⟩
  | .hbm, ⟨36, _⟩ => ⟨S1x384x28160, .f32⟩
  | .hbm, ⟨37, _⟩ => ⟨S1x384x64, .bf16⟩
  | .hbm, ⟨38, _⟩ => ⟨S64x28160, .i32⟩
  | .hbm, ⟨39, _⟩ => ⟨S1x28160, .bf16⟩
  | .hbm, ⟨40, _⟩ => ⟨S1x28160, .bf16⟩
  | .hbm, ⟨41, _⟩ => ⟨S1x64x28160, .i32⟩
  | .hbm, ⟨42, _⟩ => ⟨S1x64x28160, .bf16⟩
  | .hbm, ⟨43, _⟩ => ⟨S1x1x28160, .bf16⟩
  | .hbm, ⟨44, _⟩ => ⟨S1x64x28160, .bf16⟩
  | .hbm, ⟨45, _⟩ => ⟨S1x64x28160, .bf16⟩
  | .hbm, ⟨46, _⟩ => ⟨S1x1x28160, .bf16⟩
  | .hbm, ⟨47, _⟩ => ⟨S1x64x28160, .bf16⟩
  | .hbm, ⟨48, _⟩ => ⟨S1x64x28160, .bf16⟩
  | .hbm, ⟨49, _⟩ => ⟨S1x384x1x64, .bf16⟩
  | .hbm, ⟨50, _⟩ => ⟨S1x384x28160, .f32⟩
  | .hbm, ⟨51, _⟩ => ⟨S1x384x28160, .f32⟩
  | .hbm, ⟨52, _⟩ => ⟨S1x384x64, .bf16⟩
  | .hbm, ⟨53, _⟩ => ⟨S64x28160, .i32⟩
  | .hbm, ⟨54, _⟩ => ⟨S1x28160, .bf16⟩
  | .hbm, ⟨55, _⟩ => ⟨S1x28160, .bf16⟩
  | .hbm, ⟨56, _⟩ => ⟨S1x64x28160, .i32⟩
  | .hbm, ⟨57, _⟩ => ⟨S1x64x28160, .bf16⟩
  | .hbm, ⟨58, _⟩ => ⟨S1x1x28160, .bf16⟩
  | .hbm, ⟨59, _⟩ => ⟨S1x64x28160, .bf16⟩
  | .hbm, ⟨60, _⟩ => ⟨S1x64x28160, .bf16⟩
  | .hbm, ⟨61, _⟩ => ⟨S1x1x28160, .bf16⟩
  | .hbm, ⟨62, _⟩ => ⟨S1x64x28160, .bf16⟩
  | .hbm, ⟨63, _⟩ => ⟨S1x64x28160, .bf16⟩
  | .hbm, ⟨64, _⟩ => ⟨S1x384x1x64, .bf16⟩
  | .hbm, ⟨65, _⟩ => ⟨S1x384x28160, .f32⟩
  | .hbm, ⟨66, _⟩ => ⟨S1x384x28160, .f32⟩
  | .hbm, ⟨67, _⟩ => ⟨S1x384x3712, .bf16⟩
  | .hbm, ⟨68, _⟩ => ⟨S3712x28160, .i32⟩
  | .hbm, ⟨69, _⟩ => ⟨S29x28160, .bf16⟩
  | .hbm, ⟨70, _⟩ => ⟨S29x28160, .bf16⟩
  | .hbm, ⟨71, _⟩ => ⟨S29x128x28160, .i32⟩
  | .hbm, ⟨72, _⟩ => ⟨S29x128x28160, .bf16⟩
  | .hbm, ⟨73, _⟩ => ⟨S29x1x28160, .bf16⟩
  | .hbm, ⟨74, _⟩ => ⟨S29x128x28160, .bf16⟩
  | .hbm, ⟨75, _⟩ => ⟨S29x128x28160, .bf16⟩
  | .hbm, ⟨76, _⟩ => ⟨S29x1x28160, .bf16⟩
  | .hbm, ⟨77, _⟩ => ⟨S29x128x28160, .bf16⟩
  | .hbm, ⟨78, _⟩ => ⟨S29x128x28160, .bf16⟩
  | .hbm, ⟨79, _⟩ => ⟨S1x384x29x128, .bf16⟩
  | .hbm, ⟨80, _⟩ => ⟨S1x384x28160, .f32⟩
  | .hbm, ⟨81, _⟩ => ⟨S1x384x28160, .f32⟩
  | .hbm, ⟨82, _⟩ => ⟨S1x384x28160, .bf16⟩
  | .hbm, ⟨83, _⟩ => ⟨S384x28160, .bf16⟩
  | _, _ => ⟨S1x384x7552, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩

abbrev nD : Nat := 1
abbrev τ : Topo := Topo.v7x

variable {F : FTy → Type} [FloatOps F]
-- ==== Proof.Claims.lean ====
/- The frames of the three programs and the `preserves` claim (Proof.lean assembles them). -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Bf16PairInverse
public import Idealize.ShloMosaic.Lib.Quiescent

@[expose] public section

noncomputable section

open Idealize.ShloMosaic Idealize.SL.Sem

namespace Cert.Proof

/-- The kernel runs to the end, leaves its arguments as they were and every semaphore counter at zero. -/
theorem frame_kernel : Cert.quiescent_Kernel := fun m ρ _ => Cert.Kernel.Gen.frame m ρ

/-- The same of the kernel over the extended reals. -/
theorem frame_kernelIdeal : Cert.quiescent_KernelIdeal := fun m ρ _ => Cert.KernelIdeal.Gen.frame m ρ

/-- The same of the reference over the extended reals: its run, and a program without semaphores leaves no counter. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The rewrites of the ideal kernel, site by distinct site: the two word scratches read as pairs of bf16 rows, the
    packs of a pair into a word, and the loads and stores that read words as rows. -/
theorem preserves : Cert.preserves_Kernel_KernelIdeal :=
  open Cert.KernelIdeal IdealRules.bf16_pair in
  ⟨bufferStatement S59x2x512 S59x1x512, packStatement S59x512, statement S59x2x512 S59x1x512, packStatement S59x128,
    statement S59x2x128 S59x1x128, statement S1x2x512 S1x1x512, statement S2x512 S1x512⟩

end Cert.Proof

end
-- ==== Proof.Codes.lean ====
/-
  FOUR-BIT CODES. A byte holds two four-bit codes. The kernel takes one code of every byte of a tile at once: it reads
  the tile as thirty-two-bit words, masks each word (after a shift by four for the high codes), and reads the words
  back as bytes. Here that detour is read at one byte, the low code and the high code of a byte are named as extended
  reals, and the host's way to the same codes is read at one word.
-/
module

public import Idealize.ShloMosaic.Lib.BitcastFour
public import Idealize.ShloMosaic.Lib.KernelVsHost
public import Idealize.ShloMosaic.Lib.ValueIdx

@[expose] public section

noncomputable section

namespace Cert.Proof

open Idealize.ShloMosaic Idealize.ShloMosaic.ValueIdx

/-- The low four-bit code of a byte, as an extended real. -/
def lowCode (b : BitVec 8) : EReal := (((b.toNat % 16 : ℕ) : ℝ) : EReal)

/-- The high four-bit code of a byte, as an extended real. -/
def highCode (b : BitVec 8) : EReal := (((b.toNat / 16 : ℕ) : ℝ) : EReal)

/-- Bit `i` of the mask `0x0F0F0F0F` is set when it lies in the low half of its byte. -/
theorem mask_bit : ∀ i : Fin 32, (252645135#32 : BitVec 32).getLsbD i.val = decide (i.val % 8 < 4) := by decide

/-- Bit `i` of the byte `15` is set when `i` is below four. -/
theorem fifteen_bit : ∀ i : Fin 8, (15#8 : BitVec 8).getLsbD i.val = decide (i.val < 4) := by decide

section Tile
variable {R r n : Nat} (v : (⟨2, ![R, n]⟩ : Shape).Idx → BitVec 8)
  (h : (⟨2, ![R, n]⟩ : Shape).Bitcasts 8 ⟨2, ![r, n]⟩ 32) (h' : (⟨2, ![r, n]⟩ : Shape).Bitcasts 32 ⟨2, ![R, n]⟩ 8)

/-- The number of bytes in a column is four times the number of words. -/
theorem rows_eq (h : (⟨2, ![R, n]⟩ : Shape).Bitcasts 8 ⟨2, ![r, n]⟩ 32) : R * 8 = r * 32 := by
  have := h.2.2 ⟨0, Nat.zero_lt_two⟩
  exact this

/-- Words read back as bytes: bit `q` of the byte in row `a` is bit `8 (a mod 4) + q` of the word in row `a / 4`. -/
theorem bitcast_32_8_getLsbD (x : (⟨2, ![r, n]⟩ : Shape).Idx → BitVec 32) (a : Fin R) (l : Fin n) (q : Nat) (hq : q < 8)
    (p : Fin r) (hp : p.val = a.val / 4) :
    (bitcast ⟨2, ![R, n]⟩ 8 x h' (ix2 a l)).getLsbD q = (x (ix2 p l)).getLsbD (8 * (a.val % 4) + q) := by
  have hrow : (⟨2, ![R, n]⟩ : Shape).row (ix2 a l) = a.val := rfl
  rw [bitcast_getLsbD x h' _ q hq (by decide)]
  have e2 : ((⟨2, ![R, n]⟩ : Shape).row (ix2 a l) * 8 + q) % 32 = 8 * (a.val % 4) + q := by rw [hrow]; omega
  rw [e2]
  congr 2
  funext c
  match c with
  | ⟨0, _⟩ => exact Fin.ext ((h'.srcIdx_row _ _ _ ⟨0, Nat.zero_lt_two⟩ rfl).trans (by rw [hrow, hp]; omega))
  | ⟨1, _⟩ => exact Fin.ext (h'.srcIdx_other _ _ _ ⟨1, Nat.one_lt_two⟩ (by show ¬ 1 + 2 = 2; omega))

/-- The masked words of a tile, read back as bytes, hold the low code of every byte. -/
theorem low_tile (a : Fin R) (l : Fin n) :
    bitcast ⟨2, ![R, n]⟩ 8 (andi (bitcast ⟨2, ![r, n]⟩ 32 v h) (broadcast ⟨2, ![r, n]⟩ 252645135#32)) h' (ix2 a l)
      = v (ix2 a l) &&& 15#8 := by
  have hR := rows_eq h
  apply BitVec.eq_of_getLsbD_eq
  intro q hq
  rw [bitcast_32_8_getLsbD h' _ a l q hq ⟨a.val / 4, by omega⟩ rfl]
  show ((bitcast ⟨2, ![r, n]⟩ 32 v h (ix2 _ l)) &&& 252645135#32).getLsbD _ = _
  rw [BitVec.getLsbD_and, BitVec.getLsbD_and, bitcast_8_32_getLsbD_ix2 v h _ l _ (by omega) a (by show a.val = 4 * (a.val / 4) + _; omega),
    mask_bit ⟨8 * (a.val % 4) + q, by omega⟩, fifteen_bit ⟨q, hq⟩]
  have e : (8 * (a.val % 4) + q) % 8 = q := by omega
  simp only [e]

/-- The words of a tile shifted right by four and masked, read back as bytes, hold the high code of every byte. -/
theorem high_tile (a : Fin R) (l : Fin n) :
    bitcast ⟨2, ![R, n]⟩ 8 (andi (shrui (bitcast ⟨2, ![r, n]⟩ 32 v h) (broadcast ⟨2, ![r, n]⟩ 4#32))
        (broadcast ⟨2, ![r, n]⟩ 252645135#32)) h' (ix2 a l)
      = v (ix2 a l) >>> 4 := by
  have hR := rows_eq h
  apply BitVec.eq_of_getLsbD_eq
  intro q hq
  rw [bitcast_32_8_getLsbD h' _ a l q hq ⟨a.val / 4, by omega⟩ rfl]
  show (((bitcast ⟨2, ![r, n]⟩ 32 v h (ix2 _ l)) >>> (4 : Nat)) &&& 252645135#32).getLsbD _ = _
  rw [BitVec.getLsbD_and, BitVec.getLsbD_ushiftRight, BitVec.getLsbD_ushiftRight, mask_bit ⟨8 * (a.val % 4) + q, by omega⟩]
  have e : (8 * (a.val % 4) + q) % 8 = q := by omega
  simp only [e]
  by_cases h4 : q < 4
  · rw [bitcast_8_32_getLsbD_ix2 v h _ l _ (by omega) a (by show a.val = 4 * (a.val / 4) + _; omega)]
    have e' : (4 + (8 * (a.val % 4) + q)) % 8 = 4 + q := by omega
    simp [h4, e']
  · simp [h4, BitVec.getLsbD_of_ge (v (ix2 a l)) (4 + q) (by omega)]

end Tile

/-- The low code read as a signed byte is the low code. -/
theorem toInt_low (b : BitVec 8) : (((b &&& 15#8).toInt : ℝ) : EReal) = lowCode b := by
  have : (b &&& 15#8).toInt = ((b.toNat % 16 : ℕ) : ℤ) := by revert b; decide
  rw [this, Int.cast_natCast]; rfl

/-- The high code read as a signed byte is the high code. -/
theorem toInt_high (b : BitVec 8) : (((b >>> 4).toInt : ℝ) : EReal) = highCode b := by
  have : (b >>> 4).toInt = ((b.toNat / 16 : ℕ) : ℤ) := by revert b; decide
  rw [this, Int.cast_natCast]; rfl

/-- A byte widened to a word and masked to four bits, read signed, is the low code. -/
theorem toInt_low32 (b : BitVec 8) : (((IntOp.andi (b.setWidth 32) 15#32).toInt : ℝ) : EReal) = lowCode b := by
  have : (IntOp.andi (b.setWidth 32) 15#32).toInt = ((b.toNat % 16 : ℕ) : ℤ) := by revert b; decide
  rw [this, Int.cast_natCast]; rfl

/-- A byte widened to a word and shifted right by four, read signed, is the high code. -/
theorem toInt_high32 (u : ArithUnit) (b : BitVec 8) :
    (((IntOp.shrsi u (b.setWidth 32) 4#32).toInt : ℝ) : EReal) = highCode b := by
  rw [shrsi_unit u .vector]
  have : (IntOp.shrsi .vector (b.setWidth 32) 4#32).toInt = ((b.toNat / 16 : ℕ) : ℤ) := by revert b; decide
  rw [this, Int.cast_natCast]; rfl

/-- A byte widened to a word, shifted right by nothing and masked, read signed, is the low code. -/
theorem toInt_shift0 (b : BitVec 8) :
    (((IntOp.andi (IntOp.shrsi .vector (b.setWidth 32) 0#32) 15#32).toInt : ℝ) : EReal) = lowCode b := by
  have : (IntOp.andi (IntOp.shrsi .vector (b.setWidth 32) 0#32) 15#32).toInt = ((b.toNat % 16 : ℕ) : ℤ) := by revert b; decide
  rw [this, Int.cast_natCast]; rfl

/-- A byte widened to a word, shifted right by four and masked, read signed, is the high code. -/
theorem toInt_shift4 (b : BitVec 8) :
    (((IntOp.andi (IntOp.shrsi .vector (b.setWidth 32) 4#32) 15#32).toInt : ℝ) : EReal) = highCode b := by
  have : (IntOp.andi (IntOp.shrsi .vector (b.setWidth 32) 4#32) 15#32).toInt = ((b.toNat / 16 : ℕ) : ℤ) := by revert b; decide
  rw [this, Int.cast_natCast]; rfl

end Cert.Proof
-- ==== Proof.Group.lean ====
/-
  ONE GROUP OF THE DEQUANTISED TILE, AT AN ELEMENT. The kernel turns one group of packed rows, with the group's row of
  zero points and its row of scales, into rows of the weight tile: the code of the byte, less the zero point of the
  lane, times the scale of the lane. Here that is read at one element for the four kinds of group the kernel has: the
  low and the high codes, of 128 rows and of 64.
-/
module

public import proofs.«01_k».proof.Proof.Codes
public import proofs.«01_k».proof.Proof.Gen.KernelIdeal.Skeleton
public import Idealize.ShloMosaic.Lib.Pipeline.Value
public import Idealize.ShloMosaic.Lib.Pointwise

@[expose] public section

set_option maxRecDepth 16384

noncomputable section

namespace Cert.Proof

open Cert.KernelIdeal Cert.KernelIdeal.Gen Idealize.ShloMosaic

/-- The row a group reads of a buffer that holds every value twice: the first of the two. -/
theorem row_apply {α : Type} (raw : S1x2x512.Idx → α) (l : Fin 512) :
    shapeCast S1x512 (extractStridedSlice S1x512 ![0, 0] (interleaveRows S2x512
      (shapeCast S1x512 (rowsOfParity 0 S1x1x512 raw bitcasts_S1x2x512_w16_S1x1x512_w32) shapeCasts_S1x1x512_S1x512)
      (shapeCast S1x512 (rowsOfParity 1 S1x1x512 raw bitcasts_S1x2x512_w16_S1x1x512_w32) shapeCasts_S1x1x512_S1x512)
      bitcasts_S2x512_w16_S1x512_w32) slices_S2x512_o0_0_S1x512) shapeCasts_S1x512_S1x512 (ix2 (0 : Fin 1) l)
      = raw (ix3 (0 : Fin 1) (0 : Fin 2) l) := by
  pointwise

/-- A row broadcast to 128 rows, at an element. -/
theorem rows128_apply {α : Type} (x : S1x512.Idx → α) (a : Fin 128) (l : Fin 512) :
    broadcastTo S128x512 x broadcasts_S1x512_S128x512 (ix2 a l) = x (ix2 (0 : Fin 1) l) := by
  pointwise

/-- A row broadcast to 64 rows, at an element. -/
theorem rows64_apply {α : Type} (x : S1x512.Idx → α) (a : Fin 64) (l : Fin 512) :
    broadcastTo S64x512 x broadcasts_S1x512_S64x512 (ix2 a l) = x (ix2 (0 : Fin 1) l) := by
  pointwise

/-- A group of 128 rows of low codes, at an element: the code less the zero point, times the scale. -/
theorem low128 (v : Vec Ideal S128x512 .i8) (z s : Vec Ideal S1x2x512 .bf16) (a : Fin 128) (l : Fin 512) :
    k0_pay16 v z s (ix2 a l)
      = (lowCode (v (ix2 a l)) - z (ix3 (0 : Fin 1) (0 : Fin 2) l)) * s (ix3 (0 : Fin 1) (0 : Fin 2) l) := by
  unfold k0_pay16
  rw [shapeCast_self]
  show (_ - broadcastTo S128x512 _ broadcasts_S1x512_S128x512 (ix2 a l)) * broadcastTo S128x512 _ broadcasts_S1x512_S128x512 (ix2 a l) = _
  rw [rows128_apply, rows128_apply, row_apply, row_apply]
  exact congrArg (fun e : EReal => (e - z (ix3 (0 : Fin 1) (0 : Fin 2) l)) * s (ix3 (0 : Fin 1) (0 : Fin 2) l))
    ((congrArg (fun b : BitVec 8 => ((b.toInt : ℝ) : EReal)) (low_tile v bitcasts_S128x512_w8_S32x512_w32 bitcasts_S32x512_w32_S128x512_w8 a l)).trans (toInt_low _))

/-- A group of 128 rows of high codes, at an element: the code less the zero point, times the scale. -/
theorem high128 (v : Vec Ideal S128x512 .i8) (z s : Vec Ideal S1x2x512 .bf16) (a : Fin 128) (l : Fin 512) :
    k0_pay67 v z s (ix2 a l)
      = (highCode (v (ix2 a l)) - z (ix3 (0 : Fin 1) (0 : Fin 2) l)) * s (ix3 (0 : Fin 1) (0 : Fin 2) l) := by
  unfold k0_pay67
  rw [shapeCast_self]
  show (_ - broadcastTo S128x512 _ broadcasts_S1x512_S128x512 (ix2 a l)) * broadcastTo S128x512 _ broadcasts_S1x512_S128x512 (ix2 a l) = _
  rw [rows128_apply, rows128_apply, row_apply, row_apply]
  exact congrArg (fun e : EReal => (e - z (ix3 (0 : Fin 1) (0 : Fin 2) l)) * s (ix3 (0 : Fin 1) (0 : Fin 2) l))
    ((congrArg (fun b : BitVec 8 => ((b.toInt : ℝ) : EReal)) (high_tile v bitcasts_S128x512_w8_S32x512_w32 bitcasts_S32x512_w32_S128x512_w8 a l)).trans (toInt_high _))

/-- A group of 64 rows of low codes, at an element. -/
theorem low64 (v : Vec Ideal S64x512 .i8) (z s : Vec Ideal S1x2x512 .bf16) (a : Fin 64) (l : Fin 512) :
    k0_pay64 v z s (ix2 a l)
      = (lowCode (v (ix2 a l)) - z (ix3 (0 : Fin 1) (0 : Fin 2) l)) * s (ix3 (0 : Fin 1) (0 : Fin 2) l) := by
  unfold k0_pay64
  rw [shapeCast_self]
  show (_ - broadcastTo S64x512 _ broadcasts_S1x512_S64x512 (ix2 a l)) * broadcastTo S64x512 _ broadcasts_S1x512_S64x512 (ix2 a l) = _
  rw [rows64_apply, rows64_apply, row_apply, row_apply]
  exact congrArg (fun e : EReal => (e - z (ix3 (0 : Fin 1) (0 : Fin 2) l)) * s (ix3 (0 : Fin 1) (0 : Fin 2) l))
    ((congrArg (fun b : BitVec 8 => ((b.toInt : ℝ) : EReal)) (low_tile v bitcasts_S64x512_w8_S16x512_w32 bitcasts_S16x512_w32_S64x512_w8 a l)).trans (toInt_low _))

/-- A group of 64 rows of high codes, at an element. -/
theorem high64 (v : Vec Ideal S64x512 .i8) (z s : Vec Ideal S1x2x512 .bf16) (a : Fin 64) (l : Fin 512) :
    k0_pay66 (k0_pay65 v) z s (ix2 a l)
      = (highCode (v (ix2 a l)) - z (ix3 (0 : Fin 1) (0 : Fin 2) l)) * s (ix3 (0 : Fin 1) (0 : Fin 2) l) := by
  unfold k0_pay66 k0_pay65
  rw [shapeCast_self]
  show (_ - broadcastTo S64x512 _ broadcasts_S1x512_S64x512 (ix2 a l)) * broadcastTo S64x512 _ broadcasts_S1x512_S64x512 (ix2 a l) = _
  rw [rows64_apply, rows64_apply, row_apply, row_apply]
  exact congrArg (fun e : EReal => (e - z (ix3 (0 : Fin 1) (0 : Fin 2) l)) * s (ix3 (0 : Fin 1) (0 : Fin 2) l))
    ((congrArg (fun b : BitVec 8 => ((b.toInt : ℝ) : EReal)) (high_tile v bitcasts_S64x512_w8_S16x512_w32 bitcasts_S16x512_w32_S64x512_w8 a l)).trans (toInt_high _))

end Cert.Proof
-- ==== Proof.Zeros.lean ====
/-
  THE ROWS OF SCALES AND OF ZERO POINTS, AT AN ELEMENT. Before the groups, the kernel writes two buffers that hold every
  value twice: the scales of the tile as they are, and the zero points unpacked, four chunks of 128 lanes, where lane `l`
  takes the byte at lane `l / 2` of its chunk's bytes and of it the low code when `l` is even and the high code when `l`
  is odd.
-/
module

public import proofs.«01_k».proof.Proof.Codes
public import proofs.«01_k».proof.Proof.Gen.KernelIdeal.Skeleton
public import Idealize.ShloMosaic.Lib.Pipeline.Value
public import Idealize.ShloMosaic.Lib.Pointwise

@[expose] public section

set_option maxRecDepth 16384

noncomputable section

namespace Cert.Proof

open Cert.KernelIdeal Cert.KernelIdeal.Gen Idealize.ShloMosaic

/-- The four-bit code of a byte by its place: the low one for place zero, the high one otherwise. -/
def codeAt (p : Nat) (b : BitVec 8) : EReal := if p = 0 then lowCode b else highCode b

/-- A vector of 512 lanes written twice holds the vector in both places. -/
theorem twice512 {α : Type} (x : S59x512.Idx → α) (g : Fin 59) (d : Fin 2) (l : Fin 512) :
    interleaveRows S59x2x512 (shapeCast S59x1x512 x shapeCasts_S59x512_S59x1x512)
      (shapeCast S59x1x512 x shapeCasts_S59x512_S59x1x512) bitcasts_S59x2x512_w16_S59x1x512_w32 (ix3 g d l) = x (ix2 g l) := by
  rw [interleaveRows_apply, ite_self]
  pointwise

/-- A vector of 128 lanes written twice holds the vector in both places. -/
theorem twice128 {α : Type} (x : S59x128.Idx → α) (g : Fin 59) (d : Fin 2) (l : Fin 128) :
    interleaveRows S59x2x128 (shapeCast S59x1x128 x shapeCasts_S59x128_S59x1x128)
      (shapeCast S59x1x128 x shapeCasts_S59x128_S59x1x128) bitcasts_S59x2x128_w16_S59x1x128_w32 (ix3 g d l) = x (ix2 g l) := by
  rw [interleaveRows_apply, ite_self]
  pointwise

/-- The buffer of scales holds the scales, in both places. -/
theorem scales_apply (x : Vec Ideal S59x512 .bf16) (g : Fin 59) (d : Fin 2) (l : Fin 512) :
    k0_pay3 x (ix3 g d l) = x (ix2 g l) := twice512 x g d l

/-- The lane a chunk's lane reads, as the kernel computes it from the lane's number: `o` plus half of it. -/
def laneOf (o i : BitVec 32) : BitVec 32 :=
  Scalar.select (IntOp.cmpi .slt (IntOp.addi o (IntOp.shrsi .vector i 1#32)) 0#32)
    (IntOp.addi (IntOp.addi o (IntOp.shrsi .vector i 1#32)) 128#32) (IntOp.addi o (IntOp.shrsi .vector i 1#32))

/-- The shift a chunk's lane takes, as the kernel computes it from the lane's number: four for an odd lane. -/
def shiftOf (i : BitVec 32) : BitVec 32 := IntOp.muli (IntOp.andi i 1#32) 4#32

theorem laneOf_zero : ∀ l : Fin 128, (laneOf 0#32 (BitVec.ofNat 32 l.val)).toNat = l.val / 2 := by decide
theorem laneOf_half : ∀ l : Fin 128, (laneOf 64#32 (BitVec.ofNat 32 l.val)).toNat = 64 + l.val / 2 := by decide
theorem shiftOf_eq : ∀ l : Fin 128, shiftOf (BitVec.ofNat 32 l.val) = if l.val % 2 = 0 then 0#32 else 4#32 := by decide

/-- The zero points of one chunk, as words: of the bytes `w`, the byte at the lane `laneOf`, shifted by `shiftOf`, masked. -/
def chunkCodes (o : BitVec 32) (w : IVec S59x128 8) : IVec S59x128 32 :=
  andi (shrsi (dynamicGather 1 (extui 32 w natLt_8_32)
      (shapeCast S59x128 (shapeCast S59x128x1 (fun j => laneOf o (iota .tc S59x128 32 [1] iota_S59x128_d1_w32 j))
        shapeCasts_S59x128_S59x128x1) shapeCasts_S59x128x1_S59x128))
    (fun j => shiftOf (iota .tc S59x128 32 [1] iota_S59x128_d1_w32 j))) (broadcast S59x128 15#32)

/-- The lane's number is the second coordinate. -/
theorem iota_lane (g : Fin 59) (l : Fin 128) :
    iota .tc S59x128 32 [1] iota_S59x128_d1_w32 (ix2 g l) = BitVec.ofNat 32 l.val := by
  simp [iota]

/-- A chunk's zero point at a lane, when the lane reads the byte at lane `k`. -/
theorem chunkCodes_apply (o : BitVec 32) (w : IVec S59x128 8) (g : Fin 59) (l k : Fin 128)
    (hk : (laneOf o (BitVec.ofNat 32 l.val)).toNat = k.val) :
    (((chunkCodes o w (ix2 g l)).toInt : ℝ) : EReal) = codeAt (l.val % 2) (w (ix2 g k)) := by
  have hg : dynamicGather 1 (extui 32 w natLt_8_32)
      (shapeCast S59x128 (shapeCast S59x128x1 (fun j => laneOf o (iota .tc S59x128 32 [1] iota_S59x128_d1_w32 j))
        shapeCasts_S59x128_S59x128x1) shapeCasts_S59x128x1_S59x128) (ix2 g l) = (w (ix2 g k)).setWidth 32 := by
    rw [shapeCast_shapeCast, dynamicGather_apply]
    show (w _).setWidth 32 = _
    congr 2
    funext b
    match b with
    | ⟨0, _⟩ => rfl
    | ⟨1, _⟩ =>
      apply Fin.ext
      show (laneOf o (iota .tc S59x128 32 [1] iota_S59x128_d1_w32 (ix2 g l))).toNat % 128 = k.val
      rw [iota_lane, hk]
      exact Nat.mod_eq_of_lt k.isLt
  show (((IntOp.andi (IntOp.shrsi .vector (dynamicGather 1 _ _ (ix2 g l)) (shiftOf (iota .tc S59x128 32 [1] iota_S59x128_d1_w32 (ix2 g l)))) 15#32).toInt : ℝ) : EReal) = _
  rw [hg, iota_lane, shiftOf_eq]
  unfold codeAt
  split
  · exact toInt_shift0 _
  · exact toInt_shift4 _

section Chunks
variable (w : Vec Ideal S59x128 .i8) (g : Fin 59) (d : Fin 2) (l : Fin 128)

/-- The first chunk's zero points: the bytes' lanes 0 to 63. -/
theorem chunk0 : k0_pay7 (F := Ideal) (k0_pay5 w) (k0_pay6 w) (ix3 g d l)
    = codeAt (l.val % 2) (w (ix2 g (⟨l.val / 2, by omega⟩ : Fin 128))) :=
  (twice128 (k0_pay4 (F := Ideal) w) g d l).trans (chunkCodes_apply 0#32 w g l ⟨l.val / 2, by omega⟩ (laneOf_zero l))

/-- The second chunk's zero points: the bytes' lanes 64 to 127. -/
theorem chunk1 : k0_pay8 (F := Ideal) (iota .tc S59x128 32 [1] iota_S59x128_d1_w32) w (ix3 g d l)
    = codeAt (l.val % 2) (w (ix2 g (⟨64 + l.val / 2, by omega⟩ : Fin 128))) :=
  (twice128 (sitofp (F := Ideal) .bf16 (chunkCodes 64#32 w)) g d l).trans
    (chunkCodes_apply 64#32 w g l ⟨64 + l.val / 2, by omega⟩ (laneOf_half l))

/-- The third chunk's zero points: of the second half of the bytes, the lanes 0 to 63. -/
theorem chunk2 : k0_pay12 (F := Ideal) (iota .tc S59x128 32 [1] iota_S59x128_d1_w32) (k0_pay9 (F := Ideal) w)
      (k0_pay10 (iota .tc S59x128 32 [1] iota_S59x128_d1_w32)) (k0_pay11 (iota .tc S59x128 32 [1] iota_S59x128_d1_w32)) (ix3 g d l)
    = codeAt (l.val % 2) (w (ix2 g (⟨l.val / 2, by omega⟩ : Fin 128))) :=
  (twice128 (sitofp (F := Ideal) .bf16 (chunkCodes 0#32 w)) g d l).trans
    (chunkCodes_apply 0#32 w g l ⟨l.val / 2, by omega⟩ (laneOf_zero l))

/-- The fourth chunk's zero points: of the second half of the bytes, the lanes 64 to 127. -/
theorem chunk3 : k0_pay15 (F := Ideal) (k0_pay13 (F := Ideal) (iota .tc S59x128 32 [1] iota_S59x128_d1_w32) w) k0_pay14 (ix3 g d l)
    = codeAt (l.val % 2) (w (ix2 g (⟨64 + l.val / 2, by omega⟩ : Fin 128))) :=
  (twice128 (sitofp (F := Ideal) .bf16 (chunkCodes 64#32 w)) g d l).trans
    (chunkCodes_apply 64#32 w g l ⟨64 + l.val / 2, by omega⟩ (laneOf_half l))

end Chunks

end Cert.Proof
-- ==== Proof.Pieces.lean ====
/-
  WHAT THE KERNEL STORES INTO ITS WEIGHT TILE, AS A FAMILY. The run's record of the stores into the weight tile is a list of
  sixty pieces. Here the list is written as what it is: for each of the twenty-nine whole groups of the upper half the same
  piece at its group number, the two halves of the group that lies across the middle, and for each of the twenty-nine whole
  groups of the lower half the same piece at its group number.
-/
module

public import proofs.«01_k».proof.Proof.Gen.KernelIdeal.Frame

@[expose] public section

set_option maxRecDepth 16384

noncomputable section

namespace Cert.Proof

open Cert.KernelIdeal Cert.KernelIdeal.Gen Idealize.ShloMosaic Idealize.ShloMosaic.TcCoe Idealize.SL.Sem

variable {F : FTy → Type} [FloatOps F]
variable (c : Dev nD) (arg2 : Memref sig .tc .vmem S3776x512 .i8) (harg2 : arg2.IsWhole) (arg3 : Memref sig .tc .vmem S59x512 .bf16) (harg3 : arg3.IsWhole)
  (arg4 : Memref sig .tc .vmem S59x256 .i8) (harg4 : arg4.IsWhole) (arg7 : Memref sig .tc .vmem S59x2x512 .bf16) (arg8 : Memref sig .tc .vmem S59x2x512 .bf16)
  (x1 : Vec F S3776x512 .i8) (x2 : Vec F S59x512 .bf16) (x3 : Vec F S59x256 .i8)

/-- A block of `n` rows starting at row `o` lies in a matrix of `N` rows of 512 lanes. -/
theorem rows_inb {N : Nat} (o n : Nat) (h : o + n ≤ N) : ∀ a, (![o, 0] : Fin 2 → Nat) a + (![n, 512] : Fin 2 → Nat) a ≤ (⟨2, ![N, 512]⟩ : Shape).size a := by
  intro a
  match a with
  | ⟨0, _⟩ => exact h
  | ⟨1, _⟩ => exact Nat.le_refl 512

/-- The two rows of group `g` lie in a buffer of fifty-nine groups. -/
theorem group_inb (g : Nat) (h : g < 59) : ∀ a, (![g, 0, 0] : Fin 3 → Nat) a + (![1, 2, 512] : Fin 3 → Nat) a ≤ S59x2x512.size a := by
  intro a
  match a with
  | ⟨0, _⟩ => exact h
  | ⟨1, _⟩ => exact Nat.le_refl 2
  | ⟨2, _⟩ => exact Nat.le_refl 512

/-- The packed rows of a group: 128 rows from row `o`. -/
def packed128 (o : Nat) (h : o + 128 ≤ 3776) : Vec F S128x512 .i8 :=
  View.readAt (Elt F) arg2.view (Rect.unit (s := S3776x512) ![o, 0] S128x512.size (rows_inb o 128 h)).toLoadRect (harg2.unread x1)

/-- The packed rows of half a group: 64 rows from row `o`. -/
def packed64 (o : Nat) (h : o + 64 ≤ 3776) : Vec F S64x512 .i8 :=
  View.readAt (Elt F) arg2.view (Rect.unit (s := S3776x512) ![o, 0] S64x512.size (rows_inb o 64 h)).toLoadRect (harg2.unread x1)

/-- The zero points of group `g`, as the kernel reads them back. -/
def zeroRow (g : Nat) (h : g < 59) : Vec F S1x2x512 .bf16 :=
  arg8.view.readCov (kernelRun0_A.sl.HS2_4 c arg4 harg4 x3) (Rect.unit (s := S59x2x512) ![g, 0, 0] S1x2x512.size (group_inb g h)).toLoadRect

/-- The scales of group `g`, as the kernel reads them back. -/
def scaleRow (g : Nat) (h : g < 59) : Vec F S1x2x512 .bf16 :=
  arg7.view.readCov (kernelRun0_A.sl.HS1_1 c arg3 harg3 x2) (Rect.unit (s := S59x2x512) ![g, 0, 0] S1x2x512.size (group_inb g h)).toLoadRect

/-- The store of group `g` of the lower half: the low codes of the packed rows `128 g` to `128 g + 127`. -/
def lowPiece (g : Fin 29) : View.Piece (Elt F) S7552x512 .bf16 :=
  ⟨Rect.unit (s := S7552x512) ![128 * g.val, 0] S128x512.size (rows_inb _ 128 (by omega)),
    k0_pay16 (packed128 arg2 harg2 x1 (128 * g.val) (by omega)) (zeroRow c arg4 harg4 arg8 x3 g.val (by omega))
      (scaleRow c arg3 harg3 arg7 x2 g.val (by omega))⟩

/-- The store of the lower part of the middle group: the low codes of the last 64 packed rows. -/
def lowMiddle : View.Piece (Elt F) S7552x512 .bf16 :=
  ⟨Rect.unit (s := S7552x512) ![3712, 0] S64x512.size (rows_inb _ 64 (by omega)),
    k0_pay64 (packed64 arg2 harg2 x1 3712 (by omega)) (zeroRow c arg4 harg4 arg8 x3 29 (by omega))
      (scaleRow c arg3 harg3 arg7 x2 29 (by omega))⟩

/-- The store of the upper part of the middle group: the high codes of the first 64 packed rows. -/
def highMiddle : View.Piece (Elt F) S7552x512 .bf16 :=
  ⟨Rect.unit (s := S7552x512) ![3776, 0] S64x512.size (rows_inb _ 64 (by omega)),
    k0_pay66 (k0_pay65 (packed64 arg2 harg2 x1 0 (by omega))) (zeroRow c arg4 harg4 arg8 x3 29 (by omega))
      (scaleRow c arg3 harg3 arg7 x2 29 (by omega))⟩

/-- The store of group `30 + g` of the upper half: the high codes of the packed rows `64 + 128 g` to `64 + 128 g + 127`. -/
def highPiece (g : Fin 29) : View.Piece (Elt F) S7552x512 .bf16 :=
  ⟨Rect.unit (s := S7552x512) ![3840 + 128 * g.val, 0] S128x512.size (rows_inb _ 128 (by omega)),
    k0_pay67 (packed128 arg2 harg2 x1 (64 + 128 * g.val) (by omega)) (zeroRow c arg4 harg4 arg8 x3 (30 + g.val) (by omega))
      (scaleRow c arg3 harg3 arg7 x2 (30 + g.val) (by omega))⟩

/-- The numbers of the whole groups of one half, the last first. -/
def groups : List (Fin 29) :=
  [28, 27, 26, 25, 24, 23, 22, 21, 20, 19, 18, 17, 16, 15, 14, 13, 12, 11, 10, 9, 8, 7, 6, 5, 4, 3, 2, 1, 0]

/-- Every group is among them. -/
theorem mem_groups : ∀ g : Fin 29, g ∈ groups := by decide

/-- The stores into the weight tile, the last first. -/
def pieces : List (View.Piece (Elt F) S7552x512 .bf16) :=
  groups.map (highPiece c arg2 harg2 arg3 harg3 arg4 harg4 arg7 arg8 x1 x2 x3)
    ++ (highMiddle c arg2 harg2 arg3 harg3 arg4 harg4 arg7 arg8 x1 x2 x3
      :: lowMiddle c arg2 harg2 arg3 harg3 arg4 harg4 arg7 arg8 x1 x2 x3
      :: groups.map (lowPiece c arg2 harg2 arg3 harg3 arg4 harg4 arg7 arg8 x1 x2 x3))

/-- The run's record of the stores into the weight tile is that list. -/
theorem stores_eq : kernelRun0_A.sl.HS0_60 c arg2 harg2 arg3 harg3 arg4 harg4 arg7 arg8 x1 x2 x3
    = pieces c arg2 harg2 arg3 harg3 arg4 harg4 arg7 arg8 x1 x2 x3 := by
  sl_kernel_rfl

end Cert.Proof
-- ==== Proof.Tile.lean ====
/-
  THE WEIGHT TILE. The sixty stores leave in the kernel's scratch tile one function of the block's packed codes, scales and
  packed zero points: every store agrees with it, and together they cover the tile.
-/
module

public import proofs.«01_k».proof.Proof.Group
public import proofs.«01_k».proof.Proof.Zeros
public import proofs.«01_k».proof.Proof.Pieces
public import Idealize.ShloMosaic.Lib.Pipeline.ReadBack
public import Idealize.ShloMosaic.Lib.Pipeline.ValueKit.Tiles

@[expose] public section

set_option maxRecDepth 16384

noncomputable section

namespace Cert.Proof

open Cert.KernelIdeal Cert.KernelIdeal.Gen Idealize.ShloMosaic Idealize.ShloMosaic.TcCoe Idealize.SL.Sem

/-- One weight: the code at place `p` of the byte `q`, less the zero point at place `p'` of the byte `z`, times the scale. -/
def weight (p : Nat) (q : BitVec 8) (p' : Nat) (z : BitVec 8) (s : EReal) : EReal := (codeAt p q - codeAt p' z) * s

/-- Row `k` of the unpacked weights lies in packed row `k mod 3776`. -/
def packedRow (k : Fin 7552) : Fin 3776 := ⟨k.val % 3776, Nat.mod_lt _ (by decide)⟩

/-- Row `k` of the unpacked weights belongs to group `k / 128`. -/
def groupOf (k : Fin 7552) : Fin 59 := ⟨k.val / 128, by omega⟩

/-- The zero point of lane `l` of a block lies in byte `l / 2`. -/
def zeroLane (l : Fin 512) : Fin 256 := ⟨l.val / 2, by omega⟩

variable (c : Dev nD) (arg2 : Memref sig .tc .vmem S3776x512 .i8) (harg2 : arg2.IsWhole) (arg3 : Memref sig .tc .vmem S59x512 .bf16) (harg3 : arg3.IsWhole)
  (arg4 : Memref sig .tc .vmem S59x256 .i8) (harg4 : arg4.IsWhole) (arg6 : Memref sig .tc .vmem S7552x512 .bf16)
  (arg7 : Memref sig .tc .vmem S59x2x512 .bf16) (arg8 : Memref sig .tc .vmem S59x2x512 .bf16)
  (x1 : Vec Ideal S3776x512 .i8) (x2 : Vec Ideal S59x512 .bf16) (x3 : Vec Ideal S59x256 .i8)

/-- The zero points of a block, by group and lane. -/
def zeroAt (x3 : Vec Ideal S59x256 .i8) (g : Fin 59) (l : Fin 512) : EReal := codeAt (l.val % 2) (x3 (ix2 g (zeroLane l)))

/-- The weights of a block. -/
def tile (x1 : Vec Ideal S3776x512 .i8) (x2 : Vec Ideal S59x512 .bf16) (x3 : Vec Ideal S59x256 .i8) : Vec Ideal S7552x512 .bf16 := fun j =>
  weight ((j 0).val / 3776) (x1 (ix2 (packedRow (j 0)) (j 1))) ((j 1).val % 2) (x3 (ix2 (groupOf (j 0)) (zeroLane (j 1)))) (x2 (ix2 (groupOf (j 0)) (j 1)))

/-- The packed rows read from row `o` on, at an element. -/
theorem packed128_apply (o : Nat) (h : o + 128 ≤ 3776) (a : Fin 128) (l : Fin 512) :
    packed128 arg2 harg2 x1 o h (ix2 a l) = x1 (ix2 (⟨o + a.val, by omega⟩ : Fin 3776) l) := by
  unfold packed128
  rw [View.readAt_eq_ld, harg2.read_unread]
  refine View.ld_unit_apply_of _ _ _ _ _ _ fun b => ?_
  match b with
  | ⟨0, _⟩ => rfl
  | ⟨1, _⟩ => exact (Nat.zero_add _).symm

/-- The packed rows read from row `o` on, at an element. -/
theorem packed64_apply (o : Nat) (h : o + 64 ≤ 3776) (a : Fin 64) (l : Fin 512) :
    packed64 arg2 harg2 x1 o h (ix2 a l) = x1 (ix2 (⟨o + a.val, by omega⟩ : Fin 3776) l) := by
  unfold packed64
  rw [View.readAt_eq_ld, harg2.read_unread]
  refine View.ld_unit_apply_of _ _ _ _ _ _ fun b => ?_
  match b with
  | ⟨0, _⟩ => rfl
  | ⟨1, _⟩ => exact (Nat.zero_add _).symm

/-- The index of the rows of group `g` that the kernel reads, at a lane. -/
theorem group_idx (g : Nat) (h : g < 59) (l : Fin 512) :
    (Rect.unit (s := S59x2x512) ![g, 0, 0] S1x2x512.size (group_inb g h)).idx (ix3 (0 : Fin 1) (0 : Fin 2) l)
      = ix3 (⟨g, h⟩ : Fin 59) (0 : Fin 2) l := by
  funext b
  match b with
  | ⟨0, _⟩ => rfl
  | ⟨1, _⟩ => rfl
  | ⟨2, _⟩ => exact Fin.ext (by show 0 + 1 * l.val = l.val; omega)

/-- The scales read back are the block's. -/
theorem scaleRow_apply (g : Nat) (h : g < 59) (l : Fin 512) :
    scaleRow c arg3 harg3 arg7 x2 g h (ix3 (0 : Fin 1) (0 : Fin 2) l) = x2 (ix2 (⟨g, h⟩ : Fin 59) l) := by
  have hz3 : (![0, 0, 0] : Fin S59x2x512.rank → Nat) = fun _ => 0 := funext fun a => by fin_cases a <;> rfl
  have hz2 : (![0, 0] : Fin S59x512.rank → Nat) = fun _ => 0 := funext fun a => by fin_cases a <;> rfl
  unfold scaleRow
  rw [View.readCov_eq_canon']
  show View.canon (kernelRun0_A.sl.HS1_1 c arg3 harg3 x2) ((Rect.unit (s := S59x2x512) ![g, 0, 0] S1x2x512.size (group_inb g h)).idx _) = _
  rw [group_idx]
  unfold kernelRun0_A.sl.HS1_1
  rw [View.canon_unit_zero hz3, View.readAt_eq_ld, harg3.read_unread, View.ld_unit_zero hz2, scales_apply]

/-- The packed zero points read from byte `o` on, at an element. -/
theorem packedZeros_apply (o : Nat) (inb : ∀ a, (![0, o] : Fin 2 → Nat) a + S59x128.size a ≤ S59x256.size a) (h : o + 128 ≤ 256)
    (g : Fin 59) (k : Fin 128) :
    View.readAt (Elt Ideal) arg4.view (Rect.unit (s := S59x256) ![0, o] S59x128.size inb).toLoadRect (harg4.unread x3) (ix2 g k)
      = x3 (ix2 g (⟨o + k.val, by omega⟩ : Fin 256)) := by
  rw [View.readAt_eq_ld, harg4.read_unread]
  refine View.ld_unit_apply_of _ _ _ _ _ _ fun b => ?_
  match b with
  | ⟨0, _⟩ => exact (Nat.zero_add _).symm
  | ⟨1, _⟩ => rfl

/-- The code a chunk stores at its lane `l` is the block's zero point at the lane `b + l` where the chunk starts at lane `b`,
    an even lane, and reads the byte `(b + l) / 2`. -/
theorem zeroAt_of (b : Nat) (hb : b % 2 = 0) (g g' : Fin 59) (l : Fin 128) (l' : Fin 512) (k : Fin 256) (hg : g'.val = 0 + 1 * g.val)
    (hl : l'.val = b + 1 * l.val) (hk : k.val = (b + l.val) / 2) :
    codeAt (l.val % 2) (x3 (ix2 g k)) = zeroAt x3 g' l' := by
  have eg : g' = g := Fin.ext (by omega)
  have ek : k = zeroLane l' := Fin.ext (by show k.val = l'.val / 2; omega)
  have ep : l.val % 2 = l'.val % 2 := by omega
  unfold zeroAt
  rw [eg, ek, ep]

/-- The four stores of the zero points agree with the block's zero points. -/
theorem zeros_agree : View.PiecesOf (Val := Elt Ideal) (fun j : S59x2x512.Idx => zeroAt x3 (j 0) (j 2)) (kernelRun0_A.sl.HS2_4 c arg4 harg4 x3) := by
  refine ⟨fun x => ?_, fun x => ?_, fun x => ?_, fun x => ?_, trivial⟩ <;>
    obtain ⟨g, d, l, rfl⟩ : ∃ (g : Fin 59) (d : Fin 2) (l : Fin 128), x = ix3 g d l := ⟨x 0, x 1, x 2, eq_ix3 x⟩
  · refine (chunk3 _ g d l).trans ?_
    rw [packedZeros_apply arg4 harg4 x3 128 _ (by omega)]
    exact zeroAt_of x3 384 rfl g _ l _ _ rfl rfl (by show 128 + (64 + l.val / 2) = _; omega)
  · refine (chunk2 _ g d l).trans ?_
    rw [packedZeros_apply arg4 harg4 x3 128 _ (by omega)]
    exact zeroAt_of x3 256 rfl g _ l _ _ rfl rfl (by show 128 + l.val / 2 = _; omega)
  · refine (chunk1 _ g d l).trans ?_
    rw [packedZeros_apply arg4 harg4 x3 0 _ (by omega)]
    exact zeroAt_of x3 128 rfl g _ l _ _ rfl rfl (by show 0 + (64 + l.val / 2) = _; omega)
  · refine (chunk0 _ g d l).trans ?_
    rw [packedZeros_apply arg4 harg4 x3 0 _ (by omega)]
    exact zeroAt_of x3 0 rfl g _ l _ _ rfl rfl (by show 0 + l.val / 2 = _; omega)

/-- The zero points read back are the block's. -/
theorem zeroRow_apply (g : Nat) (h : g < 59) (l : Fin 512) :
    zeroRow c arg4 harg4 arg8 x3 g h (ix3 (0 : Fin 1) (0 : Fin 2) l) = zeroAt x3 ⟨g, h⟩ l := by
  unfold zeroRow
  rw [View.readCov_eq_canon']
  show View.canon (kernelRun0_A.sl.HS2_4 c arg4 harg4 x3) ((Rect.unit (s := S59x2x512) ![g, 0, 0] S1x2x512.size (group_inb g h)).idx _) = _
  rw [group_idx]
  refine View.canon_apply_of_pieces (Val := Elt Ideal) (fun j : S59x2x512.Idx => zeroAt x3 (j 0) (j 2)) _ (fun p hp => (zeros_agree c arg4 harg4 x3).mem p hp) _ ?_
  exact View.cover_of_tiledBy _ ![59, 2, 128] (by sl_kernel_rfl) _

/-- A piece of the tile at a row: the weight there, from the code's place, the packed row and the group. -/
theorem tile_of (p : Nat) (r : Fin 3776) (g : Nat) (hg : g < 59) (l : Fin 512) (j : S7552x512.Idx)
    (hp : p = (j 0).val / 3776) (hr : r.val = (j 0).val % 3776) (hgj : g = (j 0).val / 128) (hl : (j 1).val = 0 + 1 * l.val) :
    (codeAt p (x1 (ix2 r l)) - zeroRow c arg4 harg4 arg8 x3 g hg (ix3 (0 : Fin 1) (0 : Fin 2) l))
        * scaleRow c arg3 harg3 arg7 x2 g hg (ix3 (0 : Fin 1) (0 : Fin 2) l) = tile x1 x2 x3 j := by
  rw [zeroRow_apply, scaleRow_apply]
  have el : l = j 1 := Fin.ext (by omega)
  have er : r = packedRow (j 0) := Fin.ext hr
  have eg : (⟨g, hg⟩ : Fin 59) = groupOf (j 0) := Fin.ext hgj
  rw [el, er, eg, hp]
  rfl

/-- Every store into the tile agrees with the block's weights. -/
theorem pieces_agree (p : View.Piece (Elt Ideal) S7552x512 .bf16)
    (hp : p ∈ pieces c arg2 harg2 arg3 harg3 arg4 harg4 arg7 arg8 x1 x2 x3) (x : p.1.shape.Idx) :
    p.2 x = tile x1 x2 x3 (p.1.emb x) := by
  unfold pieces at hp
  rcases List.mem_append.mp hp with hp | hp
  · obtain ⟨g, -, rfl⟩ := List.mem_map.mp hp
    obtain ⟨a, l, rfl⟩ : ∃ (a : Fin 128) (l : Fin 512), x = ix2 a l := ⟨x 0, x 1, eq_ix2 x⟩
    refine (high128 _ _ _ a l).trans ?_
    rw [packed128_apply]
    exact tile_of c arg3 harg3 arg4 harg4 arg7 arg8 x1 x2 x3 1 _ _ _ l _
      (by show 1 = (3840 + 128 * g.val + 1 * a.val) / 3776; omega)
      (by show 64 + 128 * g.val + a.val = (3840 + 128 * g.val + 1 * a.val) % 3776; omega)
      (by show 30 + g.val = (3840 + 128 * g.val + 1 * a.val) / 128; omega) rfl
  rcases List.mem_cons.mp hp with rfl | hp
  · obtain ⟨a, l, rfl⟩ : ∃ (a : Fin 64) (l : Fin 512), x = ix2 a l := ⟨x 0, x 1, eq_ix2 x⟩
    refine (high64 _ _ _ a l).trans ?_
    rw [packed64_apply]
    exact tile_of c arg3 harg3 arg4 harg4 arg7 arg8 x1 x2 x3 1 _ _ _ l _
      (by show 1 = (3776 + 1 * a.val) / 3776; omega)
      (by show 0 + a.val = (3776 + 1 * a.val) % 3776; omega)
      (by show 29 = (3776 + 1 * a.val) / 128; omega) rfl
  rcases List.mem_cons.mp hp with rfl | hp
  · obtain ⟨a, l, rfl⟩ : ∃ (a : Fin 64) (l : Fin 512), x = ix2 a l := ⟨x 0, x 1, eq_ix2 x⟩
    refine (low64 _ _ _ a l).trans ?_
    rw [packed64_apply]
    exact tile_of c arg3 harg3 arg4 harg4 arg7 arg8 x1 x2 x3 0 _ _ _ l _
      (by show 0 = (3712 + 1 * a.val) / 3776; omega)
      (by show 3712 + a.val = (3712 + 1 * a.val) % 3776; omega)
      (by show 29 = (3712 + 1 * a.val) / 128; omega) rfl
  · obtain ⟨g, -, rfl⟩ := List.mem_map.mp hp
    obtain ⟨a, l, rfl⟩ : ∃ (a : Fin 128) (l : Fin 512), x = ix2 a l := ⟨x 0, x 1, eq_ix2 x⟩
    refine (low128 _ _ _ a l).trans ?_
    rw [packed128_apply]
    exact tile_of c arg3 harg3 arg4 harg4 arg7 arg8 x1 x2 x3 0 _ _ _ l _
      (by show 0 = (128 * g.val + 1 * a.val) / 3776; omega)
      (by show 128 * g.val + a.val = (128 * g.val + 1 * a.val) % 3776; omega)
      (by show g.val = (128 * g.val + 1 * a.val) / 128; omega) rfl

/-- The stores cover the tile. -/
theorem pieces_cover (y : S7552x512.Idx) :
    ∃ p ∈ pieces c arg2 harg2 arg3 harg3 arg4 harg4 arg7 arg8 x1 x2 x3, y ∈ p.1.set :=
  View.cover_of_tiledBy _ ![64, 512] (by sl_kernel_rfl) y

/-- The tile, read back whole, holds the block's weights. -/
theorem tile_read : kernelRun0_A.sl.v1433 c arg2 harg2 arg3 harg3 arg4 harg4 arg6 arg7 arg8 x1 x2 x3 = tile x1 x2 x3 := by
  have hz : (![0, 0] : Fin S7552x512.rank → Nat) = fun _ => 0 := funext fun a => by fin_cases a <;> rfl
  unfold kernelRun0_A.sl.v1433
  rw [stores_eq, View.readCov_eq_canon_ld _ _ _ (pieces_cover c arg2 harg2 arg3 harg3 arg4 harg4 arg7 arg8 x1 x2 x3)]
  refine (View.ld_unit_zero hz _ _).trans (funext fun y => ?_)
  exact View.canon_apply_of_pieces (Val := Elt Ideal) (tile x1 x2 x3) _ (pieces_agree c arg2 harg2 arg3 harg3 arg4 harg4 arg7 arg8 x1 x2 x3) y
    (pieces_cover c arg2 harg2 arg3 harg3 arg4 harg4 arg7 arg8 x1 x2 x3 y)

end Cert.Proof
-- ==== Proof.Block.lean ====
/-
  ONE BLOCK OF THE RESULT. At one grid point the kernel's output block is the product of the activations with the weight tile
  of the point's blocks: exactly, the sum over all 7552 rows of weights.
-/
module

public import proofs.«01_k».proof.Proof.Tile
public import Idealize.ShloMosaic.Lib.MatmulPlain

@[expose] public section

set_option maxRecDepth 16384

noncomputable section

namespace Cert.Proof

open Cert.KernelIdeal Cert.KernelIdeal.Gen Idealize.ShloMosaic Idealize.ShloMosaic.TcCoe Idealize.SL.Sem

/-- The product the kernel takes, at an element. -/
theorem product_apply (x : Vec Ideal S384x7552 .bf16) (w : Vec Ideal S7552x512 .bf16) (r : Fin 384) (n : Fin 512) :
    k0_pay2 x w (ix2 r n) = ∑ k : Fin 7552, x (ix2 r k) * w (ix2 k n) := by
  unfold k0_pay2
  rw [shapeCast_self]
  refine (Ideal.matmul_plain_apply (M := 384) (K := 7552) (N := 512) (φ₁ := .bf16) (φ₂ := .bf16) none x w (constant S384x512 .f32 0x00000000#32) r n).trans ?_
  have h0 : constant (F := Ideal) S384x512 .f32 0x00000000#32 (ix2 r n) = (0 : EReal) := Ideal.ofBits_zero .f32
  exact (congrArg (· + _) h0).trans (zero_add _)

variable (c : Dev nD) (i : grid0.Coords) (arg1 : Memref sig .tc .vmem S384x7552 .bf16) (harg1 : arg1.IsWhole)
  (arg2 : Memref sig .tc .vmem S3776x512 .i8) (harg2 : arg2.IsWhole) (arg3 : Memref sig .tc .vmem S59x512 .bf16) (harg3 : arg3.IsWhole)
  (arg4 : Memref sig .tc .vmem S59x256 .i8) (harg4 : arg4.IsWhole) (arg5 : Memref sig .tc .vmem S384x512 .bf16) (harg5 : arg5.IsWhole)
  (arg6 : Memref sig .tc .vmem S7552x512 .bf16) (harg6 : arg6.IsWhole) (arg7 : Memref sig .tc .vmem S59x2x512 .bf16) (harg7 : arg7.IsWhole)
  (arg8 : Memref sig .tc .vmem S59x2x512 .bf16) (harg8 : arg8.IsWhole)
  (x0 : Vec Ideal S384x7552 .bf16) (x1 : Vec Ideal S3776x512 .i8) (x2 : Vec Ideal S59x512 .bf16) (x3 : Vec Ideal S59x256 .i8)

/-- The body's output block is the product of the activations with the weight tile. -/
theorem out_eq : out0_A_4 c i arg1 harg1 arg2 harg2 arg3 harg3 arg4 harg4 arg5 harg5 arg6 harg6 arg7 harg7 arg8 harg8 x0 x1 x2 x3
    = k0_pay2 x0 (tile x1 x2 x3) := by
  have hz4 : (![0, 0] : Fin S384x512.rank → Nat) = fun _ => 0 := funext fun a => by fin_cases a <;> rfl
  have hz0 : (![0, 0] : Fin S384x7552.rank → Nat) = fun _ => 0 := funext fun a => by fin_cases a <;> rfl
  unfold out0_A_4
  rw [View.read_writes_junk_eq_canon]
  unfold kernelRun0_A
  dsimp only
  refine (View.canon_unit_zero hz4 _ _).trans ?_
  rw [tile_read, View.readAt_eq_ld, harg1.read_unread]
  exact congrArg (fun x => k0_pay2 x (tile x1 x2 x3)) (View.ld_unit_zero hz0 _ _)

/-- The body's output block at an element: the sum over the 7552 rows of weights. -/
theorem out_apply (r : Fin 384) (n : Fin 512) :
    out0_A_4 c i arg1 harg1 arg2 harg2 arg3 harg3 arg4 harg4 arg5 harg5 arg6 harg6 arg7 harg7 arg8 harg8 x0 x1 x2 x3 (ix2 r n)
      = ∑ k : Fin 7552, x0 (ix2 r k) * tile x1 x2 x3 (ix2 k n) := by
  rw [out_eq]
  exact product_apply x0 _ r n

end Cert.Proof
-- ==== Proof.Linear.lean ====
/-
  THE MATHEMATICS. The linear layer on 4-bit weights, as a function of rows and columns: each result is the sum over the 7552
  rows of the activation times the weight, a weight being its code less the zero point of its group, times the group's scale.
-/
module

public import proofs.«01_k».proof.Proof.Tile

@[expose] public section

noncomputable section

namespace Cert.Proof

/-- The zero point of column `n` lies in byte `n / 2`. -/
def zeroByte (n : Fin 28160) : Fin 14080 := ⟨n.val / 2, by omega⟩

/-- The weight at row `k` and column `n`, of the packed codes, the scales and the packed zero points. -/
def weightAt (q : Fin 3776 → Fin 28160 → BitVec 8) (s : Fin 59 → Fin 28160 → EReal) (z : Fin 59 → Fin 14080 → BitVec 8)
    (k : Fin 7552) (n : Fin 28160) : EReal :=
  weight (k.val / 3776) (q (packedRow k) n) (n.val % 2) (z (groupOf k) (zeroByte n)) (s (groupOf k) n)

/-- The layer's result at row `r` and column `n`. -/
def linear (x : Fin 384 → Fin 7552 → EReal) (q : Fin 3776 → Fin 28160 → BitVec 8) (s : Fin 59 → Fin 28160 → EReal)
    (z : Fin 59 → Fin 14080 → BitVec 8) (r : Fin 384) (n : Fin 28160) : EReal :=
  ∑ k : Fin 7552, x r k * weightAt q s z k n

end Cert.Proof
-- ==== Proof.Array.lean ====
/-
  THE ARRAY. Grid point `t` reads columns 512t to 512t + 511 of the packed weights and of the scales, and bytes 256t to
  256t + 255 of the packed zero points, and writes columns 512t to 512t + 511 of the result. So each point writes its columns of
  `linear` of the argument arrays, and the 55 points cover the result.
-/
module

public import proofs.«01_k».proof.Proof.Block
public import proofs.«01_k».proof.Proof.Linear
public import proofs.«01_k».proof.Proof.Gen.KernelIdeal.Value
public import Idealize.ShloMosaic.Lib.StableHlo.Run

@[expose] public section

set_option maxRecDepth 16384

noncomputable section

namespace Cert.Proof.Kernel

open Cert.KernelIdeal Cert.KernelIdeal.Gen Cert.KernelIdeal.Value Idealize.ShloMosaic Idealize.ShloMosaic.TcCoe Idealize.SL.Sem

/-- The result array of the four argument arrays. -/
def result (a0 : Vec Ideal S1x384x7552 .bf16) (a1 : Vec Ideal S3776x28160 .i8) (a2 : Vec Ideal S59x28160 .bf16) (a3 : Vec Ideal S59x14080 .i8) :
    Vec Ideal S384x28160 .bf16 := fun j =>
  linear (fun r k => a0 (ix3 (0 : Fin 1) r k)) (fun k n => a1 (ix2 k n)) (fun g n => a2 (ix2 g n)) (fun g b => a3 (ix2 g b)) (j 0) (j 1)

variable (m : (ℓ : Loc nD τ sig) → Buf (Elt Ideal) ℓ) (ρ : Dev nD → PrngReg)

/-- Where the windows stand: the first at the whole array, the others at column block `t`. -/
theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val :=
  (by decide +kernel : ∀ t : Fin grid0.N, _)
theorem index2 : ∀ t : Fin cfg0.N, win0_2.index t (0 : Fin 2) = 0 ∧ win0_2.index t (1 : Fin 2) = t.val :=
  (by decide +kernel : ∀ t : Fin grid0.N, _)
theorem index3 : ∀ t : Fin cfg0.N, win0_3.index t (0 : Fin 2) = 0 ∧ win0_3.index t (1 : Fin 2) = t.val :=
  (by decide +kernel : ∀ t : Fin grid0.N, _)
theorem index4 : ∀ t : Fin cfg0.N, win0_4.index t (0 : Fin 2) = 0 ∧ win0_4.index t (1 : Fin 2) = t.val :=
  (by decide +kernel : ∀ t : Fin grid0.N, _)

/-- There are 55 points. -/
theorem point_lt (t : Fin cfg0.N) : t.val < 55 := lt_of_lt_of_eq t.isLt N_0

/-- Column `n` of point `t`'s block is column `512t + n` of the array. -/
def column (t : Fin cfg0.N) (n : Fin 512) : Fin 28160 := ⟨512 * t.val + n.val, by have := point_lt t; omega⟩

/-- Byte `b` of point `t`'s block of zero points is byte `256t + b` of the array. -/
def byteColumn (t : Fin cfg0.N) (b : Fin 256) : Fin 14080 := ⟨256 * t.val + b.val, by have := point_lt t; omega⟩

/-- The byte of a column's zero point is in the same block as the column. -/
theorem byte_of_column (t : Fin cfg0.N) (n : Fin 512) : byteColumn t (zeroLane n) = zeroByte (column t n) := by
  apply Fin.ext
  show 256 * t.val + n.val / 2 = (512 * t.val + n.val) / 2
  omega

theorem emb0 (t : Fin cfg0.N) (j : S384x7552.Idx) : ((cfg0.win 0).blk t).view.emb j = j := by
  obtain ⟨e0, e1⟩ := index0 t
  funext a; apply Fin.ext
  match a with
  | ⟨0, _⟩ => show win0_0.index t (0 : Fin 2) * 384 + 1 * (j 0).val = (j 0).val; omega
  | ⟨1, _⟩ => show win0_0.index t (1 : Fin 2) * 7552 + 1 * (j 1).val = (j 1).val; omega

theorem emb1 (t : Fin cfg0.N) (k : Fin 3776) (n : Fin 512) : ((cfg0.win 1).blk t).view.emb (ix2 k n) = ix2 k (column t n) := by
  obtain ⟨e0, e1⟩ := index1 t
  funext a; apply Fin.ext
  match a with
  | ⟨0, _⟩ => show win0_1.index t (0 : Fin 2) * 3776 + 1 * k.val = k.val; omega
  | ⟨1, _⟩ => show win0_1.index t (1 : Fin 2) * 512 + 1 * n.val = 512 * t.val + n.val; omega

theorem emb2 (t : Fin cfg0.N) (g : Fin 59) (n : Fin 512) : ((cfg0.win 2).blk t).view.emb (ix2 g n) = ix2 g (column t n) := by
  obtain ⟨e0, e1⟩ := index2 t
  funext a; apply Fin.ext
  match a with
  | ⟨0, _⟩ => show win0_2.index t (0 : Fin 2) * 59 + 1 * g.val = g.val; omega
  | ⟨1, _⟩ => show win0_2.index t (1 : Fin 2) * 512 + 1 * n.val = 512 * t.val + n.val; omega

theorem emb3 (t : Fin cfg0.N) (g : Fin 59) (b : Fin 256) : ((cfg0.win 3).blk t).view.emb (ix2 g b) = ix2 g (byteColumn t b) := by
  obtain ⟨e0, e1⟩ := index3 t
  funext a; apply Fin.ext
  match a with
  | ⟨0, _⟩ => show win0_3.index t (0 : Fin 2) * 59 + 1 * g.val = g.val; omega
  | ⟨1, _⟩ => show win0_3.index t (1 : Fin 2) * 256 + 1 * b.val = 256 * t.val + b.val; omega

theorem emb4 (t : Fin cfg0.N) (r : Fin 384) (n : Fin 512) : ((cfg0.win 4).blk t).view.emb (ix2 r n) = ix2 r (column t n) := by
  obtain ⟨e0, e1⟩ := index4 t
  funext a; apply Fin.ext
  match a with
  | ⟨0, _⟩ => show win0_4.index t (0 : Fin 2) * 384 + 1 * r.val = r.val; omega
  | ⟨1, _⟩ => show win0_4.index t (1 : Fin 2) * 512 + 1 * n.val = 512 * t.val + n.val; omega

/-- The activations as the kernel finds them: the argument without its leading axis of one. -/
theorem activations (c : Dev nD) (r : Fin 384) (k : Fin 7552) :
    V m c main_v0 (ix2 r k) = m ((c : Thread nD τ).loc main_arg0) (ix3 (0 : Fin 1) r k) := by
  have h : V m c main_v0 = shapeCast S384x7552 (m ((c : Thread nD τ).loc main_arg0)) shapeCasts_S1x384x7552_S384x7552 := by
    show StableHlo.after hostOps0 (fun b => m (c, b)) main_v0 = _
    after_results_simp <;> rfl
  rw [h]
  simp only [pointwise]

theorem block0 (c : Dev nD) (t : Fin cfg0.N) (r : Fin 384) (k : Fin 7552) :
    iblk m c 0 t (ix2 r k) = m ((c : Thread nD τ).loc main_arg0) (ix3 (0 : Fin 1) r k) := by
  refine Eq.trans ?_ (activations m c r k)
  exact congrArg (V m c main_v0) (emb0 t (ix2 r k))

theorem block1 (c : Dev nD) (t : Fin cfg0.N) (k : Fin 3776) (n : Fin 512) :
    iblk m c 1 t (ix2 k n) = m ((c : Thread nD τ).loc main_arg1) (ix2 k (column t n)) := by
  rw [← V_main_arg1 m c]
  exact congrArg (V m c main_arg1) (emb1 t k n)

theorem block2 (c : Dev nD) (t : Fin cfg0.N) (g : Fin 59) (n : Fin 512) :
    iblk m c 2 t (ix2 g n) = m ((c : Thread nD τ).loc main_arg2) (ix2 g (column t n)) := by
  rw [← V_main_arg2 m c]
  exact congrArg (V m c main_arg2) (emb2 t g n)

theorem block3 (c : Dev nD) (t : Fin cfg0.N) (g : Fin 59) (b : Fin 256) :
    iblk m c 3 t (ix2 g b) = m ((c : Thread nD τ).loc main_arg3) (ix2 g (byteColumn t b)) := by
  rw [← V_main_arg3 m c]
  exact congrArg (V m c main_arg3) (emb3 t g b)

/-- The result array of device `c`'s arguments. -/
abbrev resultOf (c : Dev nD) : Vec Ideal S384x28160 .bf16 :=
  result (m ((c : Thread nD τ).loc main_arg0)) (m ((c : Thread nD τ).loc main_arg1)) (m ((c : Thread nD τ).loc main_arg2))
    (m ((c : Thread nD τ).loc main_arg3))

/-- The weight tile of point `t` holds the weights of the point's columns. -/
theorem tile_block (c : Dev nD) (t : Fin cfg0.N) (k : Fin 7552) (n : Fin 512) :
    tile (iblk m c 1 t) (iblk m c 2 t) (iblk m c 3 t) (ix2 k n)
      = weightAt (fun k n => m ((c : Thread nD τ).loc main_arg1) (ix2 k n)) (fun g n => m ((c : Thread nD τ).loc main_arg2) (ix2 g n))
          (fun g b => m ((c : Thread nD τ).loc main_arg3) (ix2 g b)) k (column t n) := by
  have hp : n.val % 2 = (column t n).val % 2 := by show n.val % 2 = (512 * t.val + n.val) % 2; omega
  show weight (k.val / 3776) (iblk m c 1 t (ix2 (packedRow k) n)) (n.val % 2) (iblk m c 3 t (ix2 (groupOf k) (zeroLane n)))
    (iblk m c 2 t (ix2 (groupOf k) n)) = _
  rw [block1, block2, block3, byte_of_column, hp]
  rfl

/-- What point `t` writes back is its columns of the result. -/
theorem flushed_eq (c : Dev nD) (t : Fin cfg0.N) :
    (dats m 0 c).flushed 4 t = ((cfg0.win 4).blk t).view.read (Elt Ideal) (resultOf m c) := by
  rw [flushed4_A]
  funext j
  obtain ⟨r, n, rfl⟩ : ∃ (r : Fin 384) (n : Fin 512), j = ix2 r n :=
    ⟨j 0, j 1, funext fun a => by match a with | ⟨0, _⟩ => rfl | ⟨1, _⟩ => rfl⟩
  show out0_A_4 _ _ _ _ _ _ _ _ _ _ _ _ _ _ _ _ _ _ _ _ _ _ (ix2 r n) = resultOf m c (((cfg0.win 4).blk t).view.emb (ix2 r n))
  rw [emb4, out_apply]
  show _ = linear _ _ _ _ r (column t n)
  unfold linear
  refine Finset.sum_congr rfl fun k _ => ?_
  rw [block0, tile_block]

/-- Column `n` of point `t`'s block is in the point's block. -/
theorem mem_block (t : Fin cfg0.N) (r : Fin 384) (n : Fin 512) (i : S384x28160.Idx) (h : ix2 r (column t n) = i) :
    i ∈ ((cfg0.win 4).blk t).view.set := by
  rw [← h, ← emb4]
  exact ((cfg0.win 4).blk t).view.emb_mem_set (ix2 r n)

/-- Every column of the result is in some point's block. -/
theorem covered (i : S384x28160.Idx) :
    ∃ t : Fin cfg0.N, (cfg0.win 4).flush t = true ∧ i ∈ ((cfg0.win 4).blk t).view.set := by
  have h1 : (i 1).val < 28160 := (i 1).isLt
  have ht : (i 1).val / 512 < cfg0.N := lt_of_lt_of_eq (by omega : (i 1).val / 512 < 55) N_0.symm
  refine ⟨⟨(i 1).val / 512, ht⟩, flush0_4 _, mem_block _ (i 0) ⟨(i 1).val % 512, Nat.mod_lt _ (by decide)⟩ i ?_⟩
  funext a
  match a with
  | ⟨0, _⟩ => rfl
  | ⟨1, _⟩ => exact Fin.ext (by show 512 * ((i 1).val / 512) + (i 1).val % 512 = (i 1).val; omega)

/-- The result array after the run. -/
theorem final (c : Dev nD) : (dats m 0 c).arrAt 4 cfg0.N = resultOf m c :=
  (dats m 0 c).arrAt_eq_of_cover 4 (resultOf m c) (fun t _ => flushed_eq m c t) covered

/-- The kernel's run: the result array is `result` of the arguments, and the arguments are unchanged. -/
theorem run : θ_run defs (onTc (τ := τ) (main (F := Ideal))) ⟨m, fun _ => 0, ρ⟩ fun r => ∀ c : Dev nD,
      r.2.mem ((c : Thread nD τ).loc main_v1) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.Proof.Kernel
-- ==== Proof.Sums.lean ====
/-
  THE SUM OVER THE ROWS, SPLIT. The 7552 rows are 29 groups of 128, the two halves of group 29, and 29 groups of 128: the sum
  over the rows is the sum of those four sums, in any commutative monoid.
-/
module

public import Mathlib.Algebra.BigOperators.Fin
public import Mathlib.Tactic.Ring

@[expose] public section

namespace Cert.Proof

variable {M : Type*} [AddCommMonoid M]

/-- A sum over `a * b` places is a sum over `a` groups of `b`. -/
theorem sum_groups (a b : Nat) (G : Nat → M) : ∑ k : Fin (a * b), G k.val = ∑ g : Fin a, ∑ i : Fin b, G (b * g.val + i.val) := by
  rw [← Fintype.sum_prod_type' (f := fun (g : Fin a) (i : Fin b) => G (b * g.val + i.val))]
  refine (Fintype.sum_equiv finProdFinEquiv _ _ fun p => ?_).symm
  show G _ = G (p.2.val + b * p.1.val)
  rw [Nat.add_comm]

/-- A sum over `a + b` places is the sum over the first `a` and the sum over the others. -/
theorem sum_two (a b : Nat) (G : Nat → M) : ∑ k : Fin (a + b), G k.val = ∑ k : Fin a, G k.val + ∑ k : Fin b, G (a + k.val) :=
  Fin.sum_univ_add _

/-- The four parts of the rows, of a function of the row's number. -/
theorem sum_parts_nat (G : Nat → M) :
    ∑ k : Fin 7552, G k.val
      = ((∑ g : Fin 29, ∑ i : Fin 128, G (0 + (128 * g.val + i.val)) + ∑ g : Fin 1, ∑ i : Fin 64, G (3712 + (64 * g.val + i.val)))
          + ∑ g : Fin 1, ∑ i : Fin 64, G (3776 + (64 * g.val + i.val))) + ∑ g : Fin 29, ∑ i : Fin 128, G (3840 + (128 * g.val + i.val)) := by
  rw [← sum_groups 29 128 fun k => G (0 + k), ← sum_groups 1 64 fun k => G (3712 + k), ← sum_groups 1 64 fun k => G (3776 + k),
    ← sum_groups 29 128 fun k => G (3840 + k)]
  refine (sum_two 3840 3712 G).trans (congrArg (· + _) ?_)
  refine (sum_two 3776 64 G).trans (congrArg (· + _) ?_)
  refine (sum_two 3712 64 G).trans (congrArg (· + _) ?_)
  exact Finset.sum_congr rfl fun k _ => congrArg G (Nat.zero_add _).symm

/-- The four parts of the rows. -/
theorem sum_parts (f : Fin 7552 → M) :
    ∑ k : Fin 7552, f k
      = ((∑ g : Fin 29, ∑ i : Fin 128, f ⟨0 + (128 * g.val + i.val), by omega⟩
            + ∑ g : Fin 1, ∑ i : Fin 64, f ⟨3712 + (64 * g.val + i.val), by omega⟩)
          + ∑ g : Fin 1, ∑ i : Fin 64, f ⟨3776 + (64 * g.val + i.val), by omega⟩)
        + ∑ g : Fin 29, ∑ i : Fin 128, f ⟨3840 + (128 * g.val + i.val), by omega⟩ := by
  have h := sum_parts_nat fun k => if h : k < 7552 then f ⟨k, h⟩ else 0
  have e : ∀ (k : Nat) (h : k < 7552), (if h : k < 7552 then f ⟨k, h⟩ else 0) = f ⟨k, h⟩ := fun _ h => dif_pos h
  simp only [e _ (Fin.isLt _)] at h
  refine h.trans ?_
  refine congrArg₂ (· + ·) (congrArg₂ (· + ·) (congrArg₂ (· + ·) ?_ ?_) ?_) ?_ <;>
    exact Finset.sum_congr rfl fun g _ => Finset.sum_congr rfl fun i _ => e _ (by omega)

end Cert.Proof
-- ==== Proof.Reference.lean ====
/-
  THE REFERENCE. It takes the rows in four parts: the first 29 groups, the two halves of group 29, and the last 29 groups. Each
  part is a product over (group, row of the group) of a slice of the activations with the weights of the slice. Here one part is
  read at an element, whatever its offsets, and the four parts are put together as the sum over the 7552 rows.
-/
module

public import proofs.«01_k».proof.Proof.Linear
public import proofs.«01_k».proof.Proof.Sums
public import proofs.«01_k».proof.Proof.Gen.ReferenceIdeal.Run
public import Idealize.ShloMosaic.Lib.Pointwise

@[expose] public section

set_option maxRecDepth 16384

noncomputable section

namespace Cert.Proof.Reference

open Cert.ReferenceIdeal Cert.ReferenceIdeal.Gen Cert.ReferenceIdeal.Value Idealize.ShloMosaic Idealize.ShloMosaic.TcCoe Idealize.SL.Sem

/-- The low codes of the packed weights, as words. -/
def lowCodes (a1 : Vec Ideal S3776x28160 .i8) : Vec Ideal S3776x28160 .i32 :=
  andi (extui 32 a1 natLt_8_32) (broadcastInDim S3776x28160 ![] bcast_S_S3776x28160 (constantI S_ 32 15#32))

/-- The high codes of the packed weights, as words. -/
def highCodes (a1 : Vec Ideal S3776x28160 .i8) : Vec Ideal S3776x28160 .i32 :=
  Host.shrsi (extui 32 a1 natLt_8_32) (broadcastInDim S3776x28160 ![] bcast_S_S3776x28160 (constantI S_ 32 4#32))

/-- The zero points, by group and column. -/
def zeros (a3 : Vec Ideal S59x14080 .i8) : Vec Ideal S59x28160 .bf16 :=
  sitofp (F := Ideal) .bf16 (shapeCast S59x28160 (concatenate S59x14080x2 2
    [⟨S59x14080x1, (broadcastInDim S59x14080x1 ![0, 1] bcast_S59x14080_S59x14080x1_0_1
        (andi (extui 32 a3 natLt_8_32) (broadcastInDim S59x14080 ![] bcast_S_S59x14080 (constantI S_ 32 15#32))))⟩,
      ⟨S59x14080x1, (broadcastInDim S59x14080x1 ![0, 1] bcast_S59x14080_S59x14080x1_0_1
        (Host.shrsi (extui 32 a3 natLt_8_32) (broadcastInDim S59x14080 ![] bcast_S_S59x14080 (constantI S_ 32 4#32))))⟩]
    concatenates_S59x14080x1_S59x14080x1_S59x14080x2_d2) shapeCasts_S59x14080x2_S59x28160)

theorem lowCodes_apply (a1 : Vec Ideal S3776x28160 .i8) (k : Fin 3776) (n : Fin 28160) :
    (((lowCodes a1 (ix2 k n)).toInt : ℝ) : EReal) = codeAt 0 (a1 (ix2 k n)) := toInt_low32 _

theorem highCodes_apply (a1 : Vec Ideal S3776x28160 .i8) (k : Fin 3776) (n : Fin 28160) :
    (((highCodes a1 (ix2 k n)).toInt : ℝ) : EReal) = codeAt 1 (a1 (ix2 k n)) := toInt_high32 .host _

/-- The zero point of a column is the code of the column's byte: the low one for an even column, the high one for an odd. -/
theorem zeros_apply (a3 : Vec Ideal S59x14080 .i8) (g : Fin 59) (n : Fin 28160) :
    zeros a3 (ix2 g n) = codeAt (n.val % 2) (a3 (ix2 g (zeroByte n))) := by
  unfold zeros
  simp only [pointwise]
  by_cases hp : n.val % 2 = 0
  · rw [dif_pos (by omega)]
    exact (toInt_low32 _).trans (congrArg (fun p => codeAt p (a3 (ix2 g (zeroByte n)))) hp).symm
  · have hp' : n.val % 2 = 1 := by omega
    rw [dif_neg (by omega)]
    exact (toInt_high32 .host _).trans (congrArg (fun p => codeAt p (a3 (ix2 g (zeroByte n)))) hp').symm

section Parts
variable (a0 : Vec Ideal S1x384x7552 .bf16) (C : Vec Ideal S3776x28160 .i32) (Z S : Vec Ideal S59x28160 .bf16) (ox oq og : Nat)

/-- Twenty-nine groups of 128 rows: the activations from row `ox` on, the codes from row `oq` on, the groups from `og` on. -/
def part128 (h1 : S1x384x7552.Slices ![0, 0, ox] S1x384x3712) (h2 : S3776x28160.Slices ![oq, 0] S3712x28160)
    (h3 : S59x28160.Slices ![og, 0] S29x28160) : Vec Ideal S1x384x28160 .f32 :=
  Host.dotGeneral (F := Ideal) (φ₁ := .bf16) (φ₂ := .bf16) dot_S1x384x29x128_S29x128x28160_S1x384x28160_23_01_01_2_n_n none
    (shapeCast _ (extractStridedSlice S1x384x3712 ![0, 0, ox] a0 h1) shapeCasts_S1x384x3712_S1x384x29x128)
    (mulf (subf (sitofp (F := Ideal) .bf16 (shapeCast _ (extractStridedSlice S3712x28160 ![oq, 0] C h2) shapeCasts_S3712x28160_S29x128x28160))
      (broadcastInDim S29x128x28160 ![0, 1, 2] bcast_S29x1x28160_S29x128x28160_0_1_2
        (broadcastInDim S29x1x28160 ![0, 2] bcast_S29x28160_S29x1x28160_0_2 (extractStridedSlice S29x28160 ![og, 0] Z h3))))
      (broadcastInDim S29x128x28160 ![0, 1, 2] bcast_S29x1x28160_S29x128x28160_0_1_2
        (broadcastInDim S29x1x28160 ![0, 2] bcast_S29x28160_S29x1x28160_0_2 (extractStridedSlice S29x28160 ![og, 0] S h3))))

/-- Half a group, 64 rows: the activations from row `ox` on, the codes from row `oq` on, the group `og`. -/
def part64 (h1 : S1x384x7552.Slices ![0, 0, ox] S1x384x64) (h2 : S3776x28160.Slices ![oq, 0] S64x28160)
    (h3 : S59x28160.Slices ![og, 0] S1x28160) : Vec Ideal S1x384x28160 .f32 :=
  Host.dotGeneral (F := Ideal) (φ₁ := .bf16) (φ₂ := .bf16) dot_S1x384x1x64_S1x64x28160_S1x384x28160_23_01_01_2_n_n none
    (shapeCast _ (extractStridedSlice S1x384x64 ![0, 0, ox] a0 h1) shapeCasts_S1x384x64_S1x384x1x64)
    (mulf (subf (sitofp (F := Ideal) .bf16 (shapeCast _ (extractStridedSlice S64x28160 ![oq, 0] C h2) shapeCasts_S64x28160_S1x64x28160))
      (broadcastInDim S1x64x28160 ![0, 1, 2] bcast_S1x1x28160_S1x64x28160_0_1_2
        (broadcastInDim S1x1x28160 ![0, 2] bcast_S1x28160_S1x1x28160_0_2 (extractStridedSlice S1x28160 ![og, 0] Z h3))))
      (broadcastInDim S1x64x28160 ![0, 1, 2] bcast_S1x1x28160_S1x64x28160_0_1_2
        (broadcastInDim S1x1x28160 ![0, 2] bcast_S1x28160_S1x1x28160_0_2 (extractStridedSlice S1x28160 ![og, 0] S h3))))

variable (h1 : S1x384x7552.Slices ![0, 0, ox] S1x384x3712) (h2 : S3776x28160.Slices ![oq, 0] S3712x28160) (h3 : S59x28160.Slices ![og, 0] S29x28160)
  (h1' : S1x384x7552.Slices ![0, 0, ox] S1x384x64) (h2' : S3776x28160.Slices ![oq, 0] S64x28160) (h3' : S59x28160.Slices ![og, 0] S1x28160)

/-- Twenty-nine groups, at an element. -/
theorem part128_apply (hx : ox + 3712 ≤ 7552) (hq : oq + 3712 ≤ 3776) (hg : og + 29 ≤ 59) (r : Fin 384) (n : Fin 28160) :
    part128 a0 C Z S ox oq og h1 h2 h3 (ix3 (0 : Fin 1) r n)
      = ∑ g : Fin 29, ∑ i : Fin 128, a0 (ix3 (0 : Fin 1) r (⟨ox + (128 * g.val + i.val), by omega⟩ : Fin 7552))
          * (((((C (ix2 (⟨oq + (128 * g.val + i.val), by omega⟩ : Fin 3776) n)).toInt : ℝ) : EReal)
              - Z (ix2 (⟨og + g.val, by omega⟩ : Fin 59) n)) * S (ix2 (⟨og + g.val, by omega⟩ : Fin 59) n)) := by
  unfold part128
  simp only [pointwise]
  rw [zero_add]
  refine Finset.sum_congr rfl fun g _ => Finset.sum_congr rfl fun i _ => ?_
  refine congrArg₂ (· * ·) (congrArg a0 (congr (congrArg₂ ix3 rfl (Fin.ext (Nat.zero_add _))) (Fin.ext ?_)))
    (congrArg₂ (· * ·) (congrArg₂ (· - ·) (congrArg (fun w : BitVec 32 => ((w.toInt : ℝ) : EReal)) (congrArg C (congrArg₂ ix2 (Fin.ext ?_) (Fin.ext (Nat.zero_add _)))))
        (congrArg Z (congrArg₂ ix2 rfl (Fin.ext (Nat.zero_add _)))))
      (congrArg S (congrArg₂ ix2 rfl (Fin.ext (Nat.zero_add _)))))
  · show ox + (g.val * 128 + i.val) = ox + (128 * g.val + i.val); omega
  · show oq + (g.val * 128 + i.val) = oq + (128 * g.val + i.val); omega

/-- Half a group, at an element. -/
theorem part64_apply (hx : ox + 64 ≤ 7552) (hq : oq + 64 ≤ 3776) (hg : og + 1 ≤ 59) (r : Fin 384) (n : Fin 28160) :
    part64 a0 C Z S ox oq og h1' h2' h3' (ix3 (0 : Fin 1) r n)
      = ∑ g : Fin 1, ∑ i : Fin 64, a0 (ix3 (0 : Fin 1) r (⟨ox + (64 * g.val + i.val), by omega⟩ : Fin 7552))
          * (((((C (ix2 (⟨oq + (64 * g.val + i.val), by omega⟩ : Fin 3776) n)).toInt : ℝ) : EReal)
              - Z (ix2 (⟨og + g.val, by omega⟩ : Fin 59) n)) * S (ix2 (⟨og + g.val, by omega⟩ : Fin 59) n)) := by
  unfold part64
  simp only [pointwise]
  rw [zero_add]
  refine Finset.sum_congr rfl fun g _ => Finset.sum_congr rfl fun i _ => ?_
  refine congrArg₂ (· * ·) (congrArg a0 (congr (congrArg₂ ix3 rfl (Fin.ext (Nat.zero_add _))) (Fin.ext ?_)))
    (congrArg₂ (· * ·) (congrArg₂ (· - ·) (congrArg (fun w : BitVec 32 => ((w.toInt : ℝ) : EReal)) (congrArg C (congrArg₂ ix2 (Fin.ext ?_) (Fin.ext (Nat.zero_add _)))))
        (congrArg Z (congrArg₂ ix2 rfl (Fin.ext (Nat.zero_add _)))))
      (congrArg S (congrArg₂ ix2 rfl (Fin.ext (Nat.zero_add _)))))
  · show ox + i.val = ox + (64 * 0 + i.val); omega
  · show oq + i.val = oq + (64 * 0 + i.val); omega

end Parts

/-- The reference's result array as the four parts of the rows. -/
theorem res_eq (m : (ℓ : Loc nD τ sig) → Buf (Elt Ideal) ℓ) (c : Dev nD) :
    res_out0 m c = (shapeCast S384x28160 (truncf (F := Ideal) .bf16 (addf (addf (addf
        (part128 (m ((c : Thread nD τ).loc main_arg0)) (lowCodes (m ((c : Thread nD τ).loc main_arg1))) (zeros (m ((c : Thread nD τ).loc main_arg3))) (m ((c : Thread nD τ).loc main_arg2)) 0 0 0
          slices_S1x384x7552_S1x384x3712_0_0_0 slices_S3776x28160_S3712x28160_0_0 slices_S59x28160_S29x28160_0_0)
        (part64 (m ((c : Thread nD τ).loc main_arg0)) (lowCodes (m ((c : Thread nD τ).loc main_arg1))) (zeros (m ((c : Thread nD τ).loc main_arg3))) (m ((c : Thread nD τ).loc main_arg2)) 3712 3712 29
          slices_S1x384x7552_S1x384x64_0_0_3712 slices_S3776x28160_S64x28160_3712_0 slices_S59x28160_S1x28160_29_0))
        (part64 (m ((c : Thread nD τ).loc main_arg0)) (highCodes (m ((c : Thread nD τ).loc main_arg1))) (zeros (m ((c : Thread nD τ).loc main_arg3))) (m ((c : Thread nD τ).loc main_arg2)) 3776 0 29
          slices_S1x384x7552_S1x384x64_0_0_3776 slices_S3776x28160_S64x28160_0_0 slices_S59x28160_S1x28160_29_0))
        (part128 (m ((c : Thread nD τ).loc main_arg0)) (highCodes (m ((c : Thread nD τ).loc main_arg1))) (zeros (m ((c : Thread nD τ).loc main_arg3))) (m ((c : Thread nD τ).loc main_arg2)) 3840 64 30
          slices_S1x384x7552_S1x384x3712_0_0_3840 slices_S3776x28160_S3712x28160_64_0 slices_S59x28160_S29x28160_30_0)) bitsLt_bf16_f32)
      shapeCasts_S1x384x28160_S384x28160 : Vec Ideal S384x28160 .bf16) := by
  unfold res_out0 res_main_v75
  rfl

/-- The result array, of the four argument arrays. -/
def result (a0 : Vec Ideal S1x384x7552 .bf16) (a1 : Vec Ideal S3776x28160 .i8) (a2 : Vec Ideal S59x28160 .bf16) (a3 : Vec Ideal S59x14080 .i8) :
    Vec Ideal S384x28160 .bf16 := fun j =>
  linear (fun r k => a0 (ix3 (0 : Fin 1) r k)) (fun k n => a1 (ix2 k n)) (fun g n => a2 (ix2 g n)) (fun g b => a3 (ix2 g b)) (j 0) (j 1)

/-- One term of a part is the term of `linear` at the part's row: the row's place `p`, packed row and group are the part's. -/
theorem term_eq (a0 : Vec Ideal S1x384x7552 .bf16) (a1 : Vec Ideal S3776x28160 .i8) (a2 : Vec Ideal S59x28160 .bf16)
    (a3 : Vec Ideal S59x14080 .i8) (C : Vec Ideal S3776x28160 .i32) (p : Nat)
    (hC : ∀ k n, (((C (ix2 k n)).toInt : ℝ) : EReal) = codeAt p (a1 (ix2 k n)))
    (r : Fin 384) (n : Fin 28160) (k : Fin 7552) (q : Fin 3776) (g : Fin 59)
    (hp : k.val / 3776 = p) (hq : k.val % 3776 = q.val) (hg : k.val / 128 = g.val) :
    a0 (ix3 (0 : Fin 1) r k) * (((((C (ix2 q n)).toInt : ℝ) : EReal) - zeros a3 (ix2 g n)) * a2 (ix2 g n))
      = a0 (ix3 (0 : Fin 1) r k) * weightAt (fun k n => a1 (ix2 k n)) (fun g n => a2 (ix2 g n)) (fun g b => a3 (ix2 g b)) k n := by
  have eq' : packedRow k = q := Fin.ext hq
  have eg' : groupOf k = g := Fin.ext hg
  rw [hC, zeros_apply]
  unfold weightAt weight
  rw [hp, eq', eg']

/-- The reference's result array is `result` of its arguments. -/
theorem res_result (m : (ℓ : Loc nD τ sig) → Buf (Elt Ideal) ℓ) (c : Dev nD) :
    res_out0 m c = result (m ((c : Thread nD τ).loc main_arg0)) (m ((c : Thread nD τ).loc main_arg1)) (m ((c : Thread nD τ).loc main_arg2)) (m ((c : Thread nD τ).loc main_arg3)) := by
  rw [res_eq]
  funext j
  obtain ⟨r, n, rfl⟩ : ∃ (r : Fin 384) (n : Fin 28160), j = ix2 r n :=
    ⟨j 0, j 1, funext fun a => by match a with | ⟨0, _⟩ => rfl | ⟨1, _⟩ => rfl⟩
  have hcast : ∀ x : Vec Ideal S1x384x28160 .f32,
      shapeCast S384x28160 (truncf (F := Ideal) .bf16 x bitsLt_bf16_f32) shapeCasts_S1x384x28160_S384x28160 (ix2 r n) = x (ix3 (0 : Fin 1) r n) := by
    intro x
    simp only [pointwise]
  refine (hcast _).trans ?_
  show ((part128 _ _ _ _ _ _ _ _ _ _ (ix3 (0 : Fin 1) r n) + part64 _ _ _ _ _ _ _ _ _ _ (ix3 (0 : Fin 1) r n))
    + part64 _ _ _ _ _ _ _ _ _ _ (ix3 (0 : Fin 1) r n)) + part128 _ _ _ _ _ _ _ _ _ _ (ix3 (0 : Fin 1) r n) = linear _ _ _ _ r n
  unfold linear
  rw [sum_parts, part128_apply _ _ _ _ _ _ _ _ _ _ (by decide) (by decide) (by decide), part64_apply _ _ _ _ _ _ _ _ _ _ (by decide) (by decide) (by decide),
    part64_apply _ _ _ _ _ _ _ _ _ _ (by decide) (by decide) (by decide), part128_apply _ _ _ _ _ _ _ _ _ _ (by decide) (by decide) (by decide)]
  refine congrArg₂ (· + ·) (congrArg₂ (· + ·) (congrArg₂ (· + ·) ?_ ?_) ?_) ?_ <;> refine Finset.sum_congr rfl fun g _ => Finset.sum_congr rfl fun i _ => ?_
  · exact term_eq _ _ _ _ _ 0 (lowCodes_apply _) r n _ _ _ (by dsimp only; omega) (by dsimp only; omega) (by dsimp only; omega)
  · exact term_eq _ _ _ _ _ 0 (lowCodes_apply _) r n _ _ _ (by dsimp only; omega) (by dsimp only; omega) (by dsimp only; omega)
  · exact term_eq _ _ _ _ _ 1 (highCodes_apply _) r n _ _ _ (by dsimp only; omega) (by dsimp only; omega) (by dsimp only; omega)
  · exact term_eq _ _ _ _ _ 1 (highCodes_apply _) r n _ _ _ (by dsimp only; omega) (by dsimp only; omega) (by dsimp only; omega)

end Cert.Proof.Reference
-- ==== Proof.lean ====
/-
  THE CLAIMS of the linear layer on 4-bit weights with zero points: the three programs run to the end and leave their arguments
  as they were (the frames), the kernel over the extended reals is the printed kernel with its words of two bf16 read as pairs
  (`preserves`), and over the extended reals kernel and reference have the same result on all arguments (`algebraic`): both are
  `linear` of the arguments, the kernel block by block (Array.lean), the reference part by part (Reference.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims
public import proofs.«01_k».proof.Proof.Array
public import proofs.«01_k».proof.Proof.Reference

@[expose] public section

noncomputable section

namespace Cert.Proof

open Idealize.ShloMosaic Idealize.SL.Sem

/-- The two results are one function of the arguments. -/
theorem result_eq (a0 : Vec Ideal Cert.KernelIdeal.S1x384x7552 .bf16) (a1 : Vec Ideal Cert.KernelIdeal.S3776x28160 .i8)
    (a2 : Vec Ideal Cert.KernelIdeal.S59x28160 .bf16) (a3 : Vec Ideal Cert.KernelIdeal.S59x14080 .i8) :
    Reference.result a0 a1 a2 a3 = Kernel.result a0 a1 a2 a3 := rfl

/-- Over the extended reals, kernel and reference end with the same result array, from any arguments. -/
theorem algebraic : Cert.algebraic_KernelIdeal_ReferenceIdeal := by
  intro m g m' g' _ hargs
  refine ⟨fun c => Kernel.resultOf m c, Kernel.run m g, ?_⟩
  refine (θ_run (Cert.ReferenceIdeal.defs (F := Ideal)) _ _).mono (fun r h c => ?_) (Cert.ReferenceIdeal.Value.run (F := Ideal) m' g')
  obtain ⟨hv, hkept⟩ := h c
  refine ⟨hv.trans ((Reference.res_result m' c).trans ?_), hkept⟩
  obtain ⟨h0, h1, h2, h3⟩ := hargs c
  rw [h0, h1, h2, h3]
  exact result_eq _ _ _ _

theorem claim : Cert.Claim :=
  ⟨Cert.Kernel.Gen.facts, Cert.KernelIdeal.Gen.facts, Cert.ReferenceIdeal.Gen.facts, frame_kernel, frame_kernelIdeal,
    frame_referenceIdeal, preserves, algebraic⟩

end Cert.Proof

end
